-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  IdealRules.named_const.Statement Cert.KernelIdeal.κ "inv_n" .f32 0x38D1B717#32 ((10000⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x10000x128 : Shape := ⟨3, ![1, 10000, 128]⟩
abbrev S1x10000x10000 : Shape := ⟨3, ![1, 10000, 10000]⟩
abbrev S_ : Shape := ⟨0, ![]⟩
abbrev S128x128 : Shape := ⟨2, ![128, 128]⟩
abbrev S128 : Shape := ⟨1, ![128]⟩
abbrev S10000x128 : Shape := ⟨2, ![10000, 128]⟩
abbrev S10000x10000 : Shape := ⟨2, ![10000, 10000]⟩
abbrev S256 : Shape := ⟨1, ![256]⟩
abbrev S1x256 : Shape := ⟨2, ![1, 256]⟩
abbrev S1x1 : Shape := ⟨2, ![1, 1]⟩
abbrev S10000x2 : Shape := ⟨2, ![10000, 2]⟩
abbrev S10000x256 : Shape := ⟨2, ![10000, 256]⟩
abbrev S1x128 : Shape := ⟨2, ![1, 128]⟩
abbrev S80x10000 : Shape := ⟨2, ![80, 10000]⟩
abbrev S80x256 : Shape := ⟨2, ![80, 256]⟩
abbrev S80x128 : Shape := ⟨2, ![80, 128]⟩
abbrev S10000 : Shape := ⟨1, ![10000]⟩
abbrev S10000x1 : Shape := ⟨2, ![10000, 1]⟩
abbrev S1x10000 : Shape := ⟨2, ![1, 10000]⟩
abbrev S1x20000 : Shape := ⟨2, ![1, 20000]⟩

abbrev nBuf : Space → Nat
  | .hbm => 24
  | .vmem => 16
  | .smem => 0
  | _ => 0

abbrev bufTy : (tb : Table) → Fin (tcTables nBuf tb) → BufTy
  | .hbm, ⟨0, _⟩ => ⟨S1x10000x128, .f32⟩
  | .hbm, ⟨1, _⟩ => ⟨S1x10000x128, .f32⟩
  | .hbm, ⟨2, _⟩ => ⟨S1x10000x10000, .f32⟩
  | .hbm, ⟨3, _⟩ => ⟨S_, .i32⟩
  | .hbm, ⟨4, _⟩ => ⟨S128x128, .f32⟩
  | .hbm, ⟨5, _⟩ => ⟨S128, .f32⟩
  | .hbm, ⟨6, _⟩ => ⟨S_, .f32⟩
  | .hbm, ⟨7, _⟩ => ⟨S128x128, .f32⟩
  | .hbm, ⟨8, _⟩ => ⟨S_, .f32⟩
  | .hbm, ⟨9, _⟩ => ⟨S10000x128, .f32⟩
  | .hbm, ⟨10, _⟩ => ⟨S10000x128, .f32⟩
  | .hbm, ⟨11, _⟩ => ⟨S10000x10000, .f32⟩
  | .hbm, ⟨12, _⟩ => ⟨S256, .f32⟩
  | .hbm, ⟨13, _⟩ => ⟨S1x256, .f32⟩
  | .hbm, ⟨14, _⟩ => ⟨S1x1, .f32⟩
  | .hbm, ⟨15, _⟩ => ⟨S1x1, .f32⟩
  | .hbm, ⟨16, _⟩ => ⟨S10000x2, .f32⟩
  | .hbm, ⟨17, _⟩ => ⟨S10000x1, .f32⟩
  | .hbm, ⟨18, _⟩ => ⟨S10000, .f32⟩
  | .hbm, ⟨19, _⟩ => ⟨S1x10000, .f32⟩
  | .hbm, ⟨20, _⟩ => ⟨S10000x1, .f32⟩
  | .hbm, ⟨21, _⟩ => ⟨S10000, .f32⟩
  | .hbm, ⟨22, _⟩ => ⟨S1x10000, .f32⟩
  | .hbm, ⟨23, _⟩ => ⟨S1x20000, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S1x256, .f32⟩
  | .local _ .vmem, ⟨4, _⟩ => ⟨S1x1, .f32⟩
  | .local _ .vmem, ⟨5, _⟩ => ⟨S128x128, .f32⟩
  | .local _ .vmem, ⟨6, _⟩ => ⟨S1x1, .f32⟩
  | .local _ .vmem, ⟨7, _⟩ => ⟨S10000x2, .f32⟩
  | .local _ .vmem, ⟨8, _⟩ => ⟨S10000x256, .f32⟩
  | .local _ .vmem, ⟨9, _⟩ => ⟨S10000x256, .f32⟩
  | .local _ .vmem, ⟨10, _⟩ => ⟨S1x128, .f32⟩
  | .local _ .vmem, ⟨11, _⟩ => ⟨S80x10000, .f32⟩
  | .local _ .vmem, ⟨12, _⟩ => ⟨S80x10000, .f32⟩
  | .local _ .vmem, ⟨13, _⟩ => ⟨S80x10000, .f32⟩
  | .local _ .vmem, ⟨14, _⟩ => ⟨S80x10000, .f32⟩
  | .local _ .vmem, ⟨15, _⟩ => ⟨S80x10000, .f32⟩
  | _, _ => ⟨S1x10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_scratch6 : Ref sig .tc := ⟨.vmem, 14, rfl⟩
abbrev cc0_scratch7 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

@[reducible] def k0_t1_loop : Scf.Loop 32 :=
  let c0_i32_22 : BitVec 32 := 0#32
  let c25_i32 : BitVec 32 := 25#32
  let v26 : BitVec 32 := Scalar.addi c0_i32_22 c25_i32
  let c1_i32 : BitVec 32 := 1#32
  ⟨c0_i32_22, v26, c1_i32⟩
def k0_cond1 (k0_t1 : Fin k0_t1_loop.trips) : BitVec 1 :=
  let c0_i32_22 : BitVec 32 := 0#32
  let c1_i32 : BitVec 32 := 1#32
  let arg22 : BitVec 32 := Scf.iv c0_i32_22 c1_i32 k0_t1
  let c5_i32 : BitVec 32 := 5#32
  let v54 : BitVec 32 := Scalar.muli arg22 c5_i32
  let c0_i32_44 : BitVec 32 := 0#32
  let v55 : BitVec 32 := Scalar.addi v54 c0_i32_44
  let c5_i32_45 : BitVec 32 := 5#32
  let v56 : BitVec 32 := Scalar.addi v55 c5_i32_45
  let c1_i32_46 : BitVec 32 := 1#32
  let v57 : BitVec 32 := Scalar.subi v56 c1_i32_46
  let c125_i32 : BitVec 32 := 125#32
  let v58 : BitVec 1 := Scalar.cmpi .slt v57 c125_i32
  let v59 : BitVec 32 := Scalar.extui v58
  let c0_i32_47 : BitVec 32 := 0#32
  let v60 : BitVec 1 := Scalar.cmpi .ne v59 c0_i32_47
  v60

def k0_off1 (k0_t1 : Fin k0_t1_loop.trips) : Fin 2 → Nat :=
  let c0_i32_22 : BitVec 32 := 0#32
  let c1_i32 : BitVec 32 := 1#32
  let arg22 : BitVec 32 := Scf.iv c0_i32_22 c1_i32 k0_t1
  let c5_i32 : BitVec 32 := 5#32
  let v54 : BitVec 32 := Scalar.muli arg22 c5_i32
  let c0_i32_44 : BitVec 32 := 0#32
  let v55 : BitVec 32 := Scalar.addi v54 c0_i32_44
  let c5_i32_134 : BitVec 32 := 5#32
  let v209 : BitVec 32 := Scalar.addi v55 c5_i32_134
  let c1_i32_135 : BitVec 32 := 1#32
  let v210 : BitVec 32 := Scalar.subi v209 c1_i32_135
  let c80_i32_136 : BitVec 32 := 80#32
  let v211 : BitVec 32 := Scalar.muli v210 c80_i32_136
  let c0_i32_137 : BitVec 32 := 0#32
  ![v211.toNat, 0]
def k0_off2 (k0_t1 : Fin k0_t1_loop.trips) (c0_i32_44 : BitVec 32) : Fin 2 → Nat :=
  let c0_i32_22 : BitVec 32 := 0#32
  let c1_i32 : BitVec 32 := 1#32
  let arg22 : BitVec 32 := Scf.iv c0_i32_22 c1_i32 k0_t1
  let c5_i32 : BitVec 32 := 5#32
  let v54 : BitVec 32 := Scalar.muli arg22 c5_i32
  let v55 : BitVec 32 := Scalar.addi v54 c0_i32_44
  let c80_i32_48 : BitVec 32 := 80#32
  let v61 : BitVec 32 := Scalar.muli v55 c80_i32_48
  let c0_i32_49 : BitVec 32 := 0#32
  ![v61.toNat, 0]
def k0_off3 (k0_t1 : Fin k0_t1_loop.trips) (c0_i32_44 : BitVec 32) : Fin 2 → Nat :=
  let c0_i32_22 : BitVec 32 := 0#32
  let c1_i32 : BitVec 32 := 1#32
  let arg22 : BitVec 32 := Scf.iv c0_i32_22 c1_i32 k0_t1
  let c5_i32 : BitVec 32 := 5#32
  let v54 : BitVec 32 := Scalar.muli arg22 c5_i32
  let v55 : BitVec 32 := Scalar.addi v54 c0_i32_44
  let c80_i32_54 : BitVec 32 := 80#32
  let v72 : BitVec 32 := Scalar.muli v55 c80_i32_54
  let v73 : Index := Scalar.indexCast v72
  let c0_55 : Index := 0#32
  ![v73.toNat, 0]
def k0_cond2 (k0_t1 : Fin k0_t1_loop.trips) : BitVec 1 :=
  let c0_i32_22 : BitVec 32 := 0#32
  let c1_i32 : BitVec 32 := 1#32
  let arg22 : BitVec 32 := Scf.iv c0_i32_22 c1_i32 k0_t1
  let c5_i32_61 : BitVec 32 := 5#32
  let v85 : BitVec 32 := Scalar.muli arg22 c5_i32_61
  let c1_i32_62 : BitVec 32 := 1#32
  let v86 : BitVec 32 := Scalar.addi v85 c1_i32_62
  let c5_i32_63 : BitVec 32 := 5#32
  let v87 : BitVec 32 := Scalar.addi v86 c5_i32_63
  let c1_i32_64 : BitVec 32 := 1#32
  let v88 : BitVec 32 := Scalar.subi v87 c1_i32_64
  let c125_i32_65 : BitVec 32 := 125#32
  let v89 : BitVec 1 := Scalar.cmpi .slt v88 c125_i32_65
  let v90 : BitVec 32 := Scalar.extui v89
  let c0_i32_66 : BitVec 32 := 0#32
  let v91 : BitVec 1 := Scalar.cmpi .ne v90 c0_i32_66
  v91

def k0_off4 (k0_t1 : Fin k0_t1_loop.trips) : Fin 2 → Nat :=
  let c0_i32_22 : BitVec 32 := 0#32
  let c1_i32 : BitVec 32 := 1#32
  let arg22 : BitVec 32 := Scf.iv c0_i32_22 c1_i32 k0_t1
  let c5_i32_61 : BitVec 32 := 5#32
  let v85 : BitVec 32 := Scalar.muli arg22 c5_i32_61
  let c1_i32_62 : BitVec 32 := 1#32
  let v86 : BitVec 32 := Scalar.addi v85 c1_i32_62
  let c5_i32_134 : BitVec 32 := 5#32
  let v209 : BitVec 32 := Scalar.addi v86 c5_i32_134
  let c1_i32_135 : BitVec 32 := 1#32
  let v210 : BitVec 32 := Scalar.subi v209 c1_i32_135
  let c80_i32_136 : BitVec 32 := 80#32
  let v211 : BitVec 32 := Scalar.muli v210 c80_i32_136
  let c0_i32_137 : BitVec 32 := 0#32
  ![v211.toNat, 0]
def k0_cond3 (k0_t1 : Fin k0_t1_loop.trips) : BitVec 1 :=
  let c0_i32_22 : BitVec 32 := 0#32
  let c1_i32 : BitVec 32 := 1#32
  let arg22 : BitVec 32 := Scf.iv c0_i32_22 c1_i32 k0_t1
  let c5_i32_80 : BitVec 32 := 5#32
  let v116 : BitVec 32 := Scalar.muli arg22 c5_i32_80
  let c2_i32 : BitVec 32 := 2#32
  let v117 : BitVec 32 := Scalar.addi v116 c2_i32
  let c5_i32_81 : BitVec 32 := 5#32
  let v118 : BitVec 32 := Scalar.addi v117 c5_i32_81
  let c1_i32_82 : BitVec 32 := 1#32
  let v119 : BitVec 32 := Scalar.subi v118 c1_i32_82
  let c125_i32_83 : BitVec 32 := 125#32
  let v120 : BitVec 1 := Scalar.cmpi .slt v119 c125_i32_83
  let v121 : BitVec 32 := Scalar.extui v120
  let c0_i32_84 : BitVec 32 := 0#32
  let v122 : BitVec 1 := Scalar.cmpi .ne v121 c0_i32_84
  v122

def k0_off5 (k0_t1 : Fin k0_t1_loop.trips) : Fin 2 → Nat :=
  let c0_i32_22 : BitVec 32 := 0#32
  let c1_i32 : BitVec 32 := 1#32
  let arg22 : BitVec 32 := Scf.iv c0_i32_22 c1_i32 k0_t1
  let c5_i32_80 : BitVec 32 := 5#32
  let v116 : BitVec 32 := Scalar.muli arg22 c5_i32_80
  let c2_i32 : BitVec 32 := 2#32
  let v117 : BitVec 32 := Scalar.addi v116 c2_i32
  let c5_i32_134 : BitVec 32 := 5#32
  let v209 : BitVec 32 := Scalar.addi v117 c5_i32_134
  let c1_i32_135 : BitVec 32 := 1#32
  let v210 : BitVec 32 := Scalar.subi v209 c1_i32_135
  let c80_i32_136 : BitVec 32 := 80#32
  let v211 : BitVec 32 := Scalar.muli v210 c80_i32_136
  let c0_i32_137 : BitVec 32 := 0#32
  ![v211.toNat, 0]
def k0_cond4 (k0_t1 : Fin k0_t1_loop.trips) : BitVec 1 :=
  let c0_i32_22 : BitVec 32 := 0#32
  let c1_i32 : BitVec 32 := 1#32
  let arg22 : BitVec 32 := Scf.iv c0_i32_22 c1_i32 k0_t1
  let c5_i32_98 : BitVec 32 := 5#32
  let v147 : BitVec 32 := Scalar.muli arg22 c5_i32_98
  let c3_i32 : BitVec 32 := 3#32
  let v148 : BitVec 32 := Scalar.addi v147 c3_i32
  let c5_i32_99 : BitVec 32 := 5#32
  let v149 : BitVec 32 := Scalar.addi v148 c5_i32_99
  let c1_i32_100 : BitVec 32 := 1#32
  let v150 : BitVec 32 := Scalar.subi v149 c1_i32_100
  let c125_i32_101 : BitVec 32 := 125#32
  let v151 : BitVec 1 := Scalar.cmpi .slt v150 c125_i32_101
  let v152 : BitVec 32 := Scalar.extui v151
  let c0_i32_102 : BitVec 32 := 0#32
  let v153 : BitVec 1 := Scalar.cmpi .ne v152 c0_i32_102
  v153

def k0_off6 (k0_t1 : Fin k0_t1_loop.trips) : Fin 2 → Nat :=
  let c0_i32_22 : BitVec 32 := 0#32
  let c1_i32 : BitVec 32 := 1#32
  let arg22 : BitVec 32 := Scf.iv c0_i32_22 c1_i32 k0_t1
  let c5_i32_98 : BitVec 32 := 5#32
  let v147 : BitVec 32 := Scalar.muli arg22 c5_i32_98
  let c3_i32 : BitVec 32 := 3#32
  let v148 : BitVec 32 := Scalar.addi v147 c3_i32
  let c5_i32_134 : BitVec 32 := 5#32
  let v209 : BitVec 32 := Scalar.addi v148 c5_i32_134
  let c1_i32_135 : BitVec 32 := 1#32
  let v210 : BitVec 32 := Scalar.subi v209 c1_i32_135
  let c80_i32_136 : BitVec 32 := 80#32
  let v211 : BitVec 32 := Scalar.muli v210 c80_i32_136
  let c0_i32_137 : BitVec 32 := 0#32
  ![v211.toNat, 0]
def k0_cond5 (k0_t1 : Fin k0_t1_loop.trips) : BitVec 1 :=
  let c0_i32_22 : BitVec 32 := 0#32
  let c1_i32 : BitVec 32 := 1#32
  let arg22 : BitVec 32 := Scf.iv c0_i32_22 c1_i32 k0_t1
  let c5_i32_116 : BitVec 32 := 5#32
  let v178 : BitVec 32 := Scalar.muli arg22 c5_i32_116
  let c4_i32 : BitVec 32 := 4#32
  let v179 : BitVec 32 := Scalar.addi v178 c4_i32
  let c5_i32_117 : BitVec 32 := 5#32
  let v180 : BitVec 32 := Scalar.addi v179 c5_i32_117
  let c1_i32_118 : BitVec 32 := 1#32
  let v181 : BitVec 32 := Scalar.subi v180 c1_i32_118
  let c125_i32_119 : BitVec 32 := 125#32
  let v182 : BitVec 1 := Scalar.cmpi .slt v181 c125_i32_119
  let v183 : BitVec 32 := Scalar.extui v182
  let c0_i32_120 : BitVec 32 := 0#32
  let v184 : BitVec 1 := Scalar.cmpi .ne v183 c0_i32_120
  v184

def k0_off7 (k0_t1 : Fin k0_t1_loop.trips) : Fin 2 → Nat :=
  let c0_i32_22 : BitVec 32 := 0#32
  let c1_i32 : BitVec 32 := 1#32
  let arg22 : BitVec 32 := Scf.iv c0_i32_22 c1_i32 k0_t1
  let c5_i32_116 : BitVec 32 := 5#32
  let v178 : BitVec 32 := Scalar.muli arg22 c5_i32_116
  let c4_i32 : BitVec 32 := 4#32
  let v179 : BitVec 32 := Scalar.addi v178 c4_i32
  let c5_i32_134 : BitVec 32 := 5#32
  let v209 : BitVec 32 := Scalar.addi v179 c5_i32_134
  let c1_i32_135 : BitVec 32 := 1#32
  let v210 : BitVec 32 := Scalar.subi v209 c1_i32_135
  let c80_i32_136 : BitVec 32 := 80#32
  let v211 : BitVec 32 := Scalar.muli v210 c80_i32_136
  let c0_i32_137 : BitVec 32 := 0#32
  ![v211.toNat, 0]
abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S10000x2 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== KernelIdeal.lean ====
variable {F : FTy → Type} [FloatOps F] [Named F]
def κ : String → Option EReal := fun
  | "inv_n" => some ((10000⁻¹ : ℝ) : EReal)
  | _ => none
-- ==== ReferenceIdeal.lean ====
abbrev S1x10000x128 : Shape := ⟨3, ![1, 10000, 128]⟩
abbrev S1x10000x10000 : Shape := ⟨3, ![1, 10000, 10000]⟩
abbrev S_ : Shape := ⟨0, ![]⟩
abbrev S128x128 : Shape := ⟨2, ![128, 128]⟩
abbrev S128 : Shape := ⟨1, ![128]⟩
abbrev S10000x10000 : Shape := ⟨2, ![10000, 10000]⟩
abbrev S10000x128 : Shape := ⟨2, ![10000, 128]⟩
abbrev S1x1x128 : Shape := ⟨3, ![1, 1, 128]⟩
abbrev S1x128 : Shape := ⟨2, ![1, 128]⟩
abbrev S1x10000 : Shape := ⟨2, ![1, 10000]⟩
abbrev S1x20000 : Shape := ⟨2, ![1, 20000]⟩

abbrev nBuf : Space → Nat
  | .hbm => 66
  | .vmem => 0
  | .smem => 0
  | _ => 0

abbrev bufTy : (tb : Table) → Fin (tcTables nBuf tb) → BufTy
  | .hbm, ⟨0, _⟩ => ⟨S1x10000x128, .f32⟩
  | .hbm, ⟨1, _⟩ => ⟨S1x10000x128, .f32⟩
  | .hbm, ⟨2, _⟩ => ⟨S1x10000x10000, .f32⟩
  | .hbm, ⟨3, _⟩ => ⟨S_, .i32⟩
  | .hbm, ⟨4, _⟩ => ⟨S128x128, .f32⟩
  | .hbm, ⟨5, _⟩ => ⟨S128, .f32⟩
  | .hbm, ⟨6, _⟩ => ⟨S_, .f32⟩
  | .hbm, ⟨7, _⟩ => ⟨S128x128, .f32⟩
  | .hbm, ⟨8, _⟩ => ⟨S_, .f32⟩
  | .hbm, ⟨9, _⟩ => ⟨S1x10000x128, .f32⟩
  | .hbm, ⟨10, _⟩ => ⟨S10000x10000, .f32⟩
  | .hbm, ⟨11, _⟩ => ⟨S10000x128, .f32⟩
  | .hbm, ⟨12, _⟩ => ⟨S10000x128, .f32⟩
  | .hbm, ⟨13, _⟩ => ⟨S1x10000x128, .f32⟩
  | .hbm, ⟨14, _⟩ => ⟨S1x1x128, .f32⟩
  | .hbm, ⟨15, _⟩ => ⟨S1x10000x128, .f32⟩
  | .hbm, ⟨16, _⟩ => ⟨S1x10000x128, .f32⟩
  | .hbm, ⟨17, _⟩ => ⟨S_, .f32⟩
  | .hbm, ⟨18, _⟩ => ⟨S1x10000x128, .f32⟩
  | .hbm, ⟨19, _⟩ => ⟨S1x10000x128, .i1⟩
  | .hbm, ⟨20, _⟩ => ⟨S1x10000x128, .f32⟩
  | .hbm, ⟨21, _⟩ => ⟨S1x10000x128, .f32⟩
  | .hbm, ⟨22, _⟩ => ⟨S1x10000x128, .f32⟩
  | .hbm, ⟨23, _⟩ => ⟨S_, .f32⟩
  | .hbm, ⟨24, _⟩ => ⟨S1x128, .f32⟩
  | .hbm, ⟨25, _⟩ => ⟨S_, .f32⟩
  | .hbm, ⟨26, _⟩ => ⟨S1x128, .f32⟩
  | .hbm, ⟨27, _⟩ => ⟨S1x128, .f32⟩
  | .hbm, ⟨28, _⟩ => ⟨S1x128, .f32⟩
  | .hbm, ⟨29, _⟩ => ⟨S1x128, .f32⟩
  | .hbm, ⟨30, _⟩ => ⟨S_, .f32⟩
  | .hbm, ⟨31, _⟩ => ⟨S1x128, .f32⟩
  | .hbm, ⟨32, _⟩ => ⟨S1x128, .f32⟩
  | .hbm, ⟨33, _⟩ => ⟨S_, .f32⟩
  | .hbm, ⟨34, _⟩ => ⟨S1x128, .f32⟩
  | .hbm, ⟨35, _⟩ => ⟨S1x128, .f32⟩
  | .hbm, ⟨36, _⟩ => ⟨S1x10000x128, .f32⟩
  | .hbm, ⟨37, _⟩ => ⟨S10000x10000, .f32⟩
  | .hbm, ⟨38, _⟩ => ⟨S10000x128, .f32⟩
  | .hbm, ⟨39, _⟩ => ⟨S10000x128, .f32⟩
  | .hbm, ⟨40, _⟩ => ⟨S1x10000x128, .f32⟩
  | .hbm, ⟨41, _⟩ => ⟨S1x1x128, .f32⟩
  | .hbm, ⟨42, _⟩ => ⟨S1x10000x128, .f32⟩
  | .hbm, ⟨43, _⟩ => ⟨S1x10000x128, .f32⟩
  | .hbm, ⟨44, _⟩ => ⟨S_, .f32⟩
  | .hbm, ⟨45, _⟩ => ⟨S1x10000x128, .f32⟩
  | .hbm, ⟨46, _⟩ => ⟨S1x10000x128, .i1⟩
  | .hbm, ⟨47, _⟩ => ⟨S1x10000x128, .f32⟩
  | .hbm, ⟨48, _⟩ => ⟨S1x10000x128, .f32⟩
  | .hbm, ⟨49, _⟩ => ⟨S1x10000x128, .f32⟩
  | .hbm, ⟨50, _⟩ => ⟨S1x1x128, .f32⟩
  | .hbm, ⟨51, _⟩ => ⟨S1x10000x128, .f32⟩
  | .hbm, ⟨52, _⟩ => ⟨S1x10000x128, .f32⟩
  | .hbm, ⟨53, _⟩ => ⟨S1x10000x128, .f32⟩
  | .hbm, ⟨54, _⟩ => ⟨S_, .f32⟩
  | .hbm, ⟨55, _⟩ => ⟨S1x10000, .f32⟩
  | .hbm, ⟨56, _⟩ => ⟨S1x10000, .f32⟩
  | .hbm, ⟨57, _⟩ => ⟨S1x10000, .f32⟩
  | .hbm, ⟨58, _⟩ => ⟨S1x10000x128, .f32⟩
  | .hbm, ⟨59, _⟩ => ⟨S1x10000x128, .f32⟩
  | .hbm, ⟨60, _⟩ => ⟨S1x10000x128, .f32⟩
  | .hbm, ⟨61, _⟩ => ⟨S_, .f32⟩
  | .hbm, ⟨62, _⟩ => ⟨S1x10000, .f32⟩
  | .hbm, ⟨63, _⟩ => ⟨S1x10000, .f32⟩
  | .hbm, ⟨64, _⟩ => ⟨S1x10000, .f32⟩
  | .hbm, ⟨65, _⟩ => ⟨S1x20000, .f32⟩
  | _, _ => ⟨S1x10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_0 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_4 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_5 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_6 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩

abbrev nD : Nat := 1
abbrev τ : Topo := Topo.v7x

variable {F : FTy → Type} [FloatOps F]
-- ==== Proof.Ideal.Base.lean ====
/-
  The names of the kernel's main loop: chunks of eighty rows of the adjacency matrix, their copies in flight, the
  chunks at home, and what the loop has stored after each chunk.
-/
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Affine
public import Idealize.ShloMosaic.Lib.WritesUnit
public import Idealize.ShloMosaic.Lib.VecWindow
public import Idealize.ShloMosaic.Lib.Tactic

@[expose] public section

set_option maxRecDepth 16384
set_option maxHeartbeats 4000000

noncomputable section

namespace Cert.Proof.Ideal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-! ## The resources: the pipeline's algebra beside the counters of the kernel's own transfers -/

local notation "𝕄" => MT nD τ sig Unit (Elt F) ℕ (Pipeline.UD sig nD τ) ℕ
abbrev 𝒱₀ : Variants := Variants.none

/-! ## Names: the matrix, the scratch, chunk `b` of the matrix -/

abbrev adj : Memref sig .tc .hbm S10000x10000 .f32 := Memref.whole main_v2
abbrev hpM : Memref sig .tc .vmem S10000x256 .f32 := Memref.whole cc0_scratch0
abbrev hM : Memref sig .tc .vmem S10000x256 .f32 := Memref.whole cc0_scratch1
abbrev sumM : Memref sig .tc .vmem S1x128 .f32 := Memref.whole cc0_scratch2
abbrev buf0 : Memref sig .tc .vmem S80x10000 .f32 := Memref.whole cc0_scratch3
abbrev buf1 : Memref sig .tc .vmem S80x10000 .f32 := Memref.whole cc0_scratch4
abbrev buf2 : Memref sig .tc .vmem S80x10000 .f32 := Memref.whole cc0_scratch5
abbrev buf3 : Memref sig .tc .vmem S80x10000 .f32 := Memref.whole cc0_scratch6
abbrev buf4 : Memref sig .tc .vmem S80x10000 .f32 := Memref.whole cc0_scratch7

abbrev rowOff (b : Fin 125) : Fin 2 → Nat := ![80 * b.val, 0]
theorem rowOff_inb (b : Fin 125) : ∀ a, rowOff b a + S80x10000.size a ≤ S10000x10000.size a := by
  have := b.isLt; intro a; fin_cases a
  · show 80 * b.val + 80 ≤ 10000; omega
  · show 0 + 10000 ≤ 10000; omega

/-- Chunk `b` of the matrix: its rows `80 b … 80 b + 79`. -/
def chunk (b : Fin 125) : Memref sig .tc .hbm S80x10000 .f32 :=
  adj.slice (Rect.unit (s := S10000x10000) (rowOff b) S80x10000.size (rowOff_inb b)) (fun _ => rfl)

instance (b : Fin 125) : ClosedOff (rowOff b) := ⟨rowOff b, rfl⟩

/-! ## The loop's conditions and offsets -/

theorem trips_eq : k0_t1_loop.trips = 25 := by decide
theorem cond1 : ∀ k : Fin k0_t1_loop.trips, k0_cond1 k = 1#1 := by decide +kernel
theorem conds : ∀ k : Fin k0_t1_loop.trips, k.val < 24 → k0_cond2 k = 1#1 ∧ k0_cond3 k = 1#1 ∧ k0_cond4 k = 1#1 ∧ k0_cond5 k = 1#1 := by decide +kernel
theorem conds_last : ∀ k : Fin k0_t1_loop.trips, ¬ k.val < 24 → ¬ k0_cond2 k = 1#1 ∧ ¬ k0_cond3 k = 1#1 ∧ ¬ k0_cond4 k = 1#1 ∧ ¬ k0_cond5 k = 1#1 := by decide +kernel

/-- A slice of the matrix at chunk `b`'s offset is chunk `b`. -/
theorem chunk_congr {off : Fin 2 → Nat} {b : Fin 125} (e : off = rowOff b) (hh hs) :
    adj.slice (Rect.unit (s := S10000x10000) off S80x10000.size hh) hs = chunk b :=
  Memref.slice_unit_congr _ e _ (rowOff_inb b) _ (fun _ => rfl)

theorem rowOff_bk {n r : ℕ} (h : n < 125) (e : r = 80 * n) : (![r, 0] : Fin 2 → Nat) = rowOff (Ring.bk 125 n) := by
  unfold rowOff; rw [Ring.bk_val h, e]

section Canon
variable (k : Fin k0_t1_loop.trips)

theorem k_lt : k.val < 25 := Nat.lt_of_lt_of_eq k.isLt trips_eq

@[sl_canon] theorem chunkL0 (hh hs) : adj.slice (Rect.unit (s := S10000x10000) ![0, 0] S80x10000.size hh) hs = chunk (Ring.bk 125 0) := chunk_congr (rowOff_bk (n := 0) (by decide) rfl) _ _
@[sl_canon] theorem chunkL1 (hh hs) : adj.slice (Rect.unit (s := S10000x10000) ![80, 0] S80x10000.size hh) hs = chunk (Ring.bk 125 1) := chunk_congr (rowOff_bk (n := 1) (by decide) rfl) _ _
@[sl_canon] theorem chunkL2 (hh hs) : adj.slice (Rect.unit (s := S10000x10000) ![160, 0] S80x10000.size hh) hs = chunk (Ring.bk 125 2) := chunk_congr (rowOff_bk (n := 2) (by decide) rfl) _ _
@[sl_canon] theorem chunkL3 (hh hs) : adj.slice (Rect.unit (s := S10000x10000) ![240, 0] S80x10000.size hh) hs = chunk (Ring.bk 125 3) := chunk_congr (rowOff_bk (n := 3) (by decide) rfl) _ _

/-- The chunk a trip starts first, always there; -/
@[sl_canon] theorem chunkI1 (hh hs) : adj.slice (Rect.unit (s := S10000x10000) (k0_off1 k) S80x10000.size hh) hs = chunk (Ring.bk 125 (5 * k.val + 4)) :=
  chunk_congr ((k0_off1_eq k).trans (rowOff_bk (by have := k_lt k; omega) (by omega))) _ _
/-- the other four, there at every trip but the last. -/
@[sl_canon] theorem chunkI4 (hk : k.val < 24) (hh hs) : adj.slice (Rect.unit (s := S10000x10000) (k0_off4 k) S80x10000.size hh) hs = chunk (Ring.bk 125 (5 * k.val + 5)) :=
  chunk_congr ((k0_off4_eq k).trans (rowOff_bk (by omega) (by omega))) _ _
@[sl_canon] theorem chunkI5 (hk : k.val < 24) (hh hs) : adj.slice (Rect.unit (s := S10000x10000) (k0_off5 k) S80x10000.size hh) hs = chunk (Ring.bk 125 (5 * k.val + 6)) :=
  chunk_congr ((k0_off5_eq k).trans (rowOff_bk (by omega) (by omega))) _ _
@[sl_canon] theorem chunkI6 (hk : k.val < 24) (hh hs) : adj.slice (Rect.unit (s := S10000x10000) (k0_off6 k) S80x10000.size hh) hs = chunk (Ring.bk 125 (5 * k.val + 7)) :=
  chunk_congr ((k0_off6_eq k).trans (rowOff_bk (by omega) (by omega))) _ _
@[sl_canon] theorem chunkI7 (hk : k.val < 24) (hh hs) : adj.slice (Rect.unit (s := S10000x10000) (k0_off7 k) S80x10000.size hh) hs = chunk (Ring.bk 125 (5 * k.val + 8)) :=
  chunk_congr ((k0_off7_eq k).trans (rowOff_bk (by omega) (by omega))) _ _

end Canon

/-! ## The pieces -/

section Pieces
variable (c : Dev nD) (XA : Buf (Elt F) (adj.view.loc (c : Thread nD τ)))

abbrev cellP (sm : DmaSems sig S_) : sProp 𝕄 := semVal ((c : Thread nD τ), SemLoc.dma sm.sem) 0
/-- A memref held whole at contents `f`. -/
abbrev heldP {sp : Space} {s : Shape} {e : EltTy} (M : Memref sig .tc sp s e) (f : Buf (Elt F) (M.view.loc (c : Thread nD τ))) : sProp 𝕄 :=
  M.view.loc (c : Thread nD τ) ↦[M.view.set]{fullShare} f
/-- Chunk `b` home: held on its elements at the matrix's contents. -/
abbrev homeP (b : Fin 125) : sProp 𝕄 := (chunk b).view.loc (c : Thread nD τ) ↦[(chunk b).view.set]{fullShare} XA
/-- Chunk `b`'s words. -/
abbrev words (b : Fin 125) : S80x10000.Idx → Elt F .f32 := ReadAs.same.apply ((chunk b).view.read (Elt F) XA)
/-- Chunk `b`'s copy in flight into the buffer `B` on the cell `sm`, over earlier contents `f`. -/
abbrev flightP (B : Memref sig .tc .vmem S80x10000 .f32) (sm : DmaSems sig S_) (b : Fin 125) (f : Buf (Elt F) (B.view.loc (c : Thread nD τ))) : sProp 𝕄 :=
  Transfers.Flight countersEmb (c : Thread nD τ) (SemLoc.dma sm.sem) () 101120
    iprop(heldP c B (B.view.writes (Elt F) f [⟨Rect.whole S80x10000, words c XA b⟩]) ∗ homeP c XA b)

end Pieces

/-! ## What the loop computes: a chunk's rows, the running column sums -/

section Values
variable (c : Dev nD) (XA : Buf (Elt F) (adj.view.loc (c : Thread nD τ)))
  (v22 : FVec F S1x256 .f32) (v24 : FVec F S1x1 .f32) (v25 : Vec F S10000x256 .f32)

/-- The column sums after the first `n` chunks. -/
def sumAcc : ℕ → FVec F S1x128 .f32
  | 0 => k0_pay21
  | n + 1 => k0_pay9 v22 v24 v25 (words c XA (Ring.bk 125 n)) (sumAcc n)

theorem hOff_inb (b : Fin 125) : ∀ a, rowOff b a + S80x256.size a ≤ S10000x256.size a := by
  have := b.isLt; intro a; fin_cases a
  · show 80 * b.val + 80 ≤ 10000; omega
  · show 0 + 256 ≤ 256; omega

/-- The first `n` chunks' rows of the activations are the chunks' payloads. -/
def RowsOK (n : ℕ) (fh : Buf (Elt F) (hM.view.loc (c : Thread nD τ))) : Prop :=
  ∀ b : Fin 125, b.val < n → ∀ (y : S10000x256.Idx) (x : S80x256.Idx), (y 0).val = 80 * b.val + (x 0).val → (y 1).val = (x 1).val →
    hM.view.read (Elt F) fh y = k0_pay8 v22 v24 v25 (words c XA b) x

/-- One more chunk stored keeps the rows before it and adds its own. -/
theorem RowsOK.store {n : ℕ} (hn : n < 125) {f : Buf (Elt F) (hM.view.loc (c : Thread nD τ))}
    {L : List (View.Piece (Elt F) S10000x256 .f32)} (H : RowsOK c XA v22 v24 v25 n (hM.view.writes (Elt F) f L))
    {off : Fin 2 → ℕ} (inb : ∀ a, off a + S80x256.size a ≤ S10000x256.size a) (e : off = ![80 * n, 0])
    (w : S80x256.Idx → Elt F .f32) (hw : w = k0_pay8 v22 v24 v25 (words c XA (Ring.bk 125 n))) :
    RowsOK c XA v22 v24 v25 (n + 1) (hM.view.writes (Elt F) f (⟨Rect.unit (s := S10000x256) off S80x256.size inb, w⟩ :: L)) := by
  intro b hb y x h0 h1
  have hx : (x 0).val < 80 := (x 0).isLt
  by_cases hbn : b.val = n
  · obtain rfl : b = Ring.bk 125 n := Fin.ext (by rw [Ring.bk_val hn]; exact hbn)
    rw [Ring.bk_val hn] at h0
    refine (View.read_writes_cons_rows_of_mem (o := 80 * n) hM.view f inb w L y x e h0 h1).trans ?_
    rw [hw]
  · refine (View.read_writes_cons_rows_of_not_mem (o := 80 * n) (W := 80) hM.view f inb w L y e rfl (by omega)).trans ?_
    exact H b (by omega) y x h0 h1

/-- A whole load of the sums reads their contents; a whole store replaces them. -/
theorem sum_read (f : Buf (Elt F) (sumM.view.loc (c : Thread nD τ))) :
    sumM.view.readAt (Elt F) (Rect.unit (s := S1x128) ![0, 0] S1x128.size inb_S1x128_S1x128_0_0).toLoadRect f = sumM.view.read (Elt F) f := by
  funext x
  rw [View.readAt_apply]
  congr 1
  funext a; exact Fin.ext (by fin_cases a <;> simp)

end Values

/-! ## The loop's resources before chunk `p = 5 k` -/

section Res
variable (c : Dev nD) (XA : Buf (Elt F) (adj.view.loc (c : Thread nD τ)))
  (v22 : FVec F S1x256 .f32) (v24 : FVec F S1x1 .f32) (v25 : Vec F S10000x256 .f32)

/-- The four chunks from `p` on in flight into the first four buffers, the fifth free, every other chunk home. -/
def flying (p : ℕ) : sProp 𝕄 := iprop(∃ f0 f1 f2 f3 f4,
    flightP c XA buf0 cc0_scratch8 (Ring.bk 125 p) f0
    ∗ flightP c XA buf1 cc0_scratch9 (Ring.bk 125 (p + 1)) f1
    ∗ flightP c XA buf2 cc0_scratch10 (Ring.bk 125 (p + 2)) f2
    ∗ flightP c XA buf3 cc0_scratch11 (Ring.bk 125 (p + 3)) f3
    ∗ heldP c buf4 f4 ∗ cellP c cc0_scratch12 ∗ bigSep (Ring.homeSet 4 p) (homeP c XA))

/-- Nothing in flight: the buffers at some contents, the cells at zero, every chunk home. -/
def idle : sProp 𝕄 := iprop(∃ f0 f1 f2 f3 f4,
    heldP c buf0 f0 ∗ heldP c buf1 f1 ∗ heldP c buf2 f2 ∗ heldP c buf3 f3 ∗ heldP c buf4 f4
    ∗ cellP c cc0_scratch8 ∗ cellP c cc0_scratch9 ∗ cellP c cc0_scratch10 ∗ cellP c cc0_scratch11 ∗ cellP c cc0_scratch12
    ∗ bigSep Finset.univ (homeP c XA))

/-- The activations and the sums after `p` chunks. -/
def stored (p : ℕ) : sProp 𝕄 := iprop(∃ fh fs, heldP c hM fh ∗ heldP c sumM fs
    ∗ ⌜RowsOK c XA v22 v24 v25 p fh ∧ sumM.view.read (Elt F) fs = sumAcc c XA v22 v24 v25 p⌝)

def resAt (p : ℕ) : sProp 𝕄 := iprop(stored c XA v22 v24 v25 p ∗ (∃ W, owes (c : Thread nD τ) 0 W) ∗ (if p < 125 then flying c XA p else idle c XA))

end Res

/-! ## The chunks at home, five at a time -/

section Homes
variable {M : Type _} [URA M] (Φ : Fin 125 → sProp M)

theorem bigSep_five (R : Finset (Fin 125)) (n : ℕ) (hn : n + 4 < 125) (hR : ∀ b ∈ R, b.val < n ∨ n + 5 ≤ b.val) :
    bigSep (insert (Ring.bk 125 n) (insert (Ring.bk 125 (n + 1)) (insert (Ring.bk 125 (n + 2)) (insert (Ring.bk 125 (n + 3)) (insert (Ring.bk 125 (n + 4)) R))))) Φ
      = iprop(Φ (Ring.bk 125 n) ∗ Φ (Ring.bk 125 (n + 1)) ∗ Φ (Ring.bk 125 (n + 2)) ∗ Φ (Ring.bk 125 (n + 3)) ∗ Φ (Ring.bk 125 (n + 4)) ∗ bigSep R Φ) := by
  have hm (i : ℕ) (hi : i < 5) : Ring.bk 125 (n + i) ∉ R := fun h => by
    have := hR _ h; rw [Ring.bk_val (by omega)] at this; omega
  have hne (i j : ℕ) (hi : i < 5) (hj : j < 5) (hij : i ≠ j) : Ring.bk 125 (n + i) ≠ Ring.bk 125 (n + j) := fun h => by
    have := congrArg Fin.val h; rw [Ring.bk_val (by omega), Ring.bk_val (by omega)] at this; omega
  have m0 := hm 0 (by decide)
  have h01 := hne 0 1 (by decide) (by decide) (by decide)
  have h02 := hne 0 2 (by decide) (by decide) (by decide)
  have h03 := hne 0 3 (by decide) (by decide) (by decide)
  have h04 := hne 0 4 (by decide) (by decide) (by decide)
  rw [Nat.add_zero] at m0 h01 h02 h03 h04
  rw [bigSep_insert (by simp only [Finset.mem_insert, not_or]; exact ⟨h01, h02, h03, h04, m0⟩),
    bigSep_insert (by
      simp only [Finset.mem_insert, not_or]
      exact ⟨hne 1 2 (by decide) (by decide) (by decide), hne 1 3 (by decide) (by decide) (by decide), hne 1 4 (by decide) (by decide) (by decide), hm 1 (by decide)⟩),
    bigSep_insert (by
      simp only [Finset.mem_insert, not_or]
      exact ⟨hne 2 3 (by decide) (by decide) (by decide), hne 2 4 (by decide) (by decide) (by decide), hm 2 (by decide)⟩),
    bigSep_insert (by
      simp only [Finset.mem_insert, not_or]
      exact ⟨hne 3 4 (by decide) (by decide) (by decide), hm 3 (by decide)⟩),
    bigSep_insert (hm 4 (by decide))]
  rfl

/-- The chunks a trip from chunk `p` on leaves alone. -/
def Rest (p : ℕ) : Finset (Fin 125) := Finset.univ.filter fun b => b.val < p ∨ p + 9 ≤ b.val

theorem mem_Rest (p : ℕ) (b : Fin 125) : b ∈ Rest p ↔ b.val < p ∨ p + 9 ≤ b.val := by simp [Rest]

theorem homes_before (p : ℕ) (h : p + 8 < 125) : bigSep (Ring.homeSet 4 p) Φ
    = iprop(Φ (Ring.bk 125 (p + 4)) ∗ Φ (Ring.bk 125 (p + 5)) ∗ Φ (Ring.bk 125 (p + 6)) ∗ Φ (Ring.bk 125 (p + 7)) ∗ Φ (Ring.bk 125 (p + 8)) ∗ bigSep (Rest p) Φ) := by
  rw [← bigSep_five Φ (Rest p) (p + 4) (by omega) (fun b hb => by have := (mem_Rest p b).mp hb; omega)]
  congr 1; ext b
  simp only [Ring.mem_homeSet, Finset.mem_insert, mem_Rest, Fin.ext_iff]
  rw [Ring.bk_val (by omega), Ring.bk_val (by omega), Ring.bk_val (by omega), Ring.bk_val (by omega), Ring.bk_val (by omega)]
  omega

theorem homes_after (p : ℕ) (h : p + 4 < 125) : bigSep (Ring.homeSet 4 (p + 5)) Φ
    = iprop(Φ (Ring.bk 125 p) ∗ Φ (Ring.bk 125 (p + 1)) ∗ Φ (Ring.bk 125 (p + 2)) ∗ Φ (Ring.bk 125 (p + 3)) ∗ Φ (Ring.bk 125 (p + 4)) ∗ bigSep (Rest p) Φ) := by
  rw [← bigSep_five Φ (Rest p) p h (fun b hb => by have := (mem_Rest p b).mp hb; omega)]
  congr 1; ext b
  simp only [Ring.mem_homeSet, Finset.mem_insert, mem_Rest, Fin.ext_iff]
  rw [Ring.bk_val (by omega), Ring.bk_val (by omega), Ring.bk_val (by omega), Ring.bk_val (by omega), Ring.bk_val (by omega)]
  omega

theorem bigSep_cons {A R : Finset (Fin 125)} {n : ℕ} (hA : A = insert (Ring.bk 125 n) R) (hn : Ring.bk 125 n ∉ R) :
    bigSep A Φ = iprop(Φ (Ring.bk 125 n) ∗ bigSep R Φ) := by
  subst hA; exact bigSep_insert hn

/-- Before the last trip one chunk is still to start. -/
theorem homes_last : bigSep (Ring.homeSet 4 120) Φ = iprop(Φ (Ring.bk 125 124) ∗ bigSep (Rest 120) Φ) := by
  refine bigSep_cons Φ ?_ (by rw [mem_Rest, Ring.bk_val (by decide)]; omega)
  ext b
  simp only [Ring.mem_homeSet, Finset.mem_insert, mem_Rest, Fin.ext_iff]
  rw [Ring.bk_val (by decide)]; have := b.isLt; omega

theorem homes_univ : bigSep Finset.univ Φ = bigSep (Ring.homeSet 4 125) Φ := by
  rw [Ring.homeSet_last (NB := 125) (L := 4) 125 (by decide)]

/-- Before the first trip all but the first four chunks are home. -/
theorem homes_first : bigSep Finset.univ Φ
    = iprop(Φ (Ring.bk 125 0) ∗ Φ (Ring.bk 125 1) ∗ Φ (Ring.bk 125 2) ∗ Φ (Ring.bk 125 3) ∗ bigSep (Ring.homeSet 4 0) Φ) := by
  have hR : ∀ b ∈ (Finset.univ.filter fun b : Fin 125 => 5 ≤ b.val), b.val < 0 ∨ 0 + 5 ≤ b.val := fun b hb => by simpa using hb
  have h5 := bigSep_five Φ (Finset.univ.filter fun b : Fin 125 => 5 ≤ b.val) 0 (by decide) hR
  have e : bigSep (Ring.homeSet 4 0) Φ = iprop(Φ (Ring.bk 125 4) ∗ bigSep (Finset.univ.filter fun b : Fin 125 => 5 ≤ b.val) Φ) := by
    refine bigSep_cons Φ ?_ (by simp)
    ext b
    simp only [Ring.mem_homeSet, Finset.mem_insert, Finset.mem_filter, Finset.mem_univ, true_and, Fin.ext_iff]
    rw [Ring.bk_val (by decide)]; omega
  rw [e]
  refine Eq.trans ?_ h5
  congr 1

end Homes

/-! ## One trip's stores -/

section Stores
variable (c : Dev nD) (XA : Buf (Elt F) (adj.view.loc (c : Thread nD τ)))
  (v22 : FVec F S1x256 .f32) (v24 : FVec F S1x1 .f32) (v25 : Vec F S10000x256 .f32)

/-- The load of a buffer a copy has filled reads what the copy brought. -/
theorem buf_read (B : Memref sig .tc .vmem S80x10000 .f32) (w : S80x10000.Idx → Elt F .f32) :
    B.view.readCov [⟨Rect.whole S80x10000, w⟩] (Rect.unit (s := S80x10000) ![0, 0] S80x10000.size inb_S80x10000_S80x10000_0_0).toLoadRect = w :=
  View.readCov_full B.view inb_S80x10000_S80x10000_0_0 (fun a => (Nat.zero_add _).le) w []

/-- The load of the sums after a store reads the stored ones. -/
theorem sum_readCov (w : S1x128.Idx → Elt F .f32) (L : List (View.Piece (Elt F) S1x128 .f32)) :
    sumM.view.readCov (⟨Rect.unit (s := S1x128) ![0, 0] S1x128.size inb_S1x128_S1x128_0_0, w⟩ :: L)
      (Rect.unit (s := S1x128) ![0, 0] S1x128.size inb_S1x128_S1x128_0_0).toLoadRect = w :=
  View.readCov_full sumM.view inb_S1x128_S1x128_0_0 inb_S1x128_S1x128_0_0 w L

/-- One chunk's columns added. -/
theorem sum_step {n : ℕ} {w : Vec F S80x10000 .f32} {a : Vec F S1x128 .f32} (hw : w = words c XA (Ring.bk 125 n)) (ha : a = sumAcc c XA v22 v24 v25 n) :
    k0_pay9 v22 v24 v25 w a = sumAcc c XA v22 v24 v25 (n + 1) := by
  subst hw; subst ha; rfl

/-- A trip's five stores of rows. -/
theorem RowsOK.trip (k : Fin k0_t1_loop.trips) {f : Buf (Elt F) (hM.view.loc (c : Thread nD τ))} (H : RowsOK c XA v22 v24 v25 (5 * k.val) f)
    {w0 w1 w2 w3 w4 : S80x256.Idx → Elt F .f32}
    (h0 : w0 = k0_pay8 v22 v24 v25 (words c XA (Ring.bk 125 (5 * k.val))))
    (h1 : w1 = k0_pay8 v22 v24 v25 (words c XA (Ring.bk 125 (5 * k.val + 1))))
    (h2 : w2 = k0_pay8 v22 v24 v25 (words c XA (Ring.bk 125 (5 * k.val + 2))))
    (h3 : w3 = k0_pay8 v22 v24 v25 (words c XA (Ring.bk 125 (5 * k.val + 3))))
    (h4 : w4 = k0_pay8 v22 v24 v25 (words c XA (Ring.bk 125 (5 * k.val + 4)))) :
    RowsOK c XA v22 v24 v25 (5 * k.val + 5) (hM.view.writes (Elt F) f
      [⟨Rect.unit (s := S10000x256) (k0_off3 k 4#32) S80x256.size (k0_off3_inb k 4), w4⟩,
       ⟨Rect.unit (s := S10000x256) (k0_off3 k 3#32) S80x256.size (k0_off3_inb k 3), w3⟩,
       ⟨Rect.unit (s := S10000x256) (k0_off3 k 2#32) S80x256.size (k0_off3_inb k 2), w2⟩,
       ⟨Rect.unit (s := S10000x256) (k0_off3 k 1#32) S80x256.size (k0_off3_inb k 1), w1⟩,
       ⟨Rect.unit (s := S10000x256) (k0_off3 k 0#32) S80x256.size (k0_off3_inb k 0), w0⟩]) := by
  have hk := k_lt k
  have e (r : Fin 5) : k0_off3 k (BitVec.ofNat 32 r.val) = ![80 * (5 * k.val + r.val), 0] :=
    (k0_off3_eq k r).trans (congrArg (fun n : ℕ => (![n, 0] : Fin 2 → ℕ)) (by omega))
  refine RowsOK.store c XA v22 v24 v25 (n := 5 * k.val + 4) (by omega) ?_ _ (e 4) _ h4
  refine RowsOK.store c XA v22 v24 v25 (n := 5 * k.val + 3) (by omega) ?_ _ (e 3) _ h3
  refine RowsOK.store c XA v22 v24 v25 (n := 5 * k.val + 2) (by omega) ?_ _ (e 2) _ h2
  refine RowsOK.store c XA v22 v24 v25 (n := 5 * k.val + 1) (by omega) ?_ _ (e 1) _ h1
  refine RowsOK.store c XA v22 v24 v25 (n := 5 * k.val) (by omega) ?_ _ (e 0) _ h0
  exact H

/-- The sums' box, whole. -/
abbrev sumR : Rect S1x128 := Rect.unit (s := S1x128) ![0, 0] S1x128.size inb_S1x128_S1x128_0_0

/-- The sums' stores of a trip's first `i + 1` steps, newest first. -/
abbrev sums0 (fs : Buf (Elt F) (sumM.view.loc (c : Thread nD τ))) (w0 : Vec F S80x10000 .f32) : List (View.Piece (Elt F) S1x128 .f32) :=
  [⟨sumR, k0_pay9 v22 v24 v25 w0 (sumM.view.readAt (Elt F) sumR.toLoadRect fs)⟩]
abbrev sums1 (L : List (View.Piece (Elt F) S1x128 .f32)) (w : Vec F S80x10000 .f32) : List (View.Piece (Elt F) S1x128 .f32) :=
  ⟨sumR, k0_pay9 v22 v24 v25 w (sumM.view.readCov L sumR.toLoadRect)⟩ :: L

/-- What one trip's run leaves in the activations and in the sums, from the five loads: the next five chunks' rows and sums. -/
theorem stored_trip (k : Fin k0_t1_loop.trips) {fh : Buf (Elt F) (hM.view.loc (c : Thread nD τ))} {fs : Buf (Elt F) (sumM.view.loc (c : Thread nD τ))}
    (H : RowsOK c XA v22 v24 v25 (5 * k.val) fh ∧ sumM.view.read (Elt F) fs = sumAcc c XA v22 v24 v25 (5 * k.val))
    {w0 w1 w2 w3 w4 : Vec F S80x10000 .f32}
    (h0 : w0 = words c XA (Ring.bk 125 (5 * k.val))) (h1 : w1 = words c XA (Ring.bk 125 (5 * k.val + 1)))
    (h2 : w2 = words c XA (Ring.bk 125 (5 * k.val + 2))) (h3 : w3 = words c XA (Ring.bk 125 (5 * k.val + 3)))
    (h4 : w4 = words c XA (Ring.bk 125 (5 * k.val + 4))) :
    RowsOK c XA v22 v24 v25 (5 * k.val + 5) (hM.view.writes (Elt F) fh
      [⟨Rect.unit (s := S10000x256) (k0_off3 k 4#32) S80x256.size (k0_off3_inb k 4), k0_pay8 v22 v24 v25 w4⟩,
       ⟨Rect.unit (s := S10000x256) (k0_off3 k 3#32) S80x256.size (k0_off3_inb k 3), k0_pay8 v22 v24 v25 w3⟩,
       ⟨Rect.unit (s := S10000x256) (k0_off3 k 2#32) S80x256.size (k0_off3_inb k 2), k0_pay8 v22 v24 v25 w2⟩,
       ⟨Rect.unit (s := S10000x256) (k0_off3 k 1#32) S80x256.size (k0_off3_inb k 1), k0_pay8 v22 v24 v25 w1⟩,
       ⟨Rect.unit (s := S10000x256) (k0_off3 k 0#32) S80x256.size (k0_off3_inb k 0), k0_pay8 v22 v24 v25 w0⟩])
    ∧ sumM.view.read (Elt F) (sumM.view.writes (Elt F) fs
        (sums1 v22 v24 v25 (sums1 v22 v24 v25 (sums1 v22 v24 v25 (sums1 v22 v24 v25 (sums0 c v22 v24 v25 fs w0) w1) w2) w3) w4))
      = sumAcc c XA v22 v24 v25 (5 * k.val + 5) := by
  refine ⟨RowsOK.trip c XA v22 v24 v25 k H.1 (congrArg _ h0) (congrArg _ h1) (congrArg _ h2) (congrArg _ h3) (congrArg _ h4), ?_⟩
  refine (View.read_writes_full sumM.view fs inb_S1x128_S1x128_0_0 _ _).trans ?_
  exact sum_step c XA v22 v24 v25 h4 ((sum_readCov _ _).trans (sum_step c XA v22 v24 v25 h3 ((sum_readCov _ _).trans
    (sum_step c XA v22 v24 v25 h2 ((sum_readCov _ _).trans (sum_step c XA v22 v24 v25 h1 ((sum_readCov _ _).trans
      (sum_step c XA v22 v24 v25 h0 ((sum_read c fs).trans H.2)))))))))

end Stores

end Cert.Proof.Ideal

end
-- ==== Proof.Ideal.Trip.lean ====
/-
  One trip of the kernel's main loop: five chunks of eighty rows of the adjacency matrix, each started four chunks
  ahead, waited for, multiplied into the stacked projections, biased, activated, stored and added to the column sums.
-/
module

public import proofs.«01_k».proof.Proof.Ideal.Base

@[expose] public section

set_option maxRecDepth 16384
set_option maxHeartbeats 4000000

noncomputable section

namespace Cert.Proof.Ideal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-! ## The resources: the pipeline's algebra beside the counters of the kernel's own transfers -/

local notation "𝕄" => MT nD τ sig Unit (Elt F) ℕ (Pipeline.UD sig nD τ) ℕ

section Trip

variable (c : Dev nD) (XA : Buf (Elt F) (adj.view.loc (c : Thread nD τ)))
  (arg1 : Memref sig .tc .vmem S10000x128 .f32) (harg1 : arg1.IsWhole) (arg2 : Memref sig .tc .vmem S10000x128 .f32) (harg2 : arg2.IsWhole)
  (arg3 : Memref sig .tc .vmem S128x128 .f32) (harg3 : arg3.IsWhole) (arg4 : Memref sig .tc .vmem S1x256 .f32) (harg4 : arg4.IsWhole)
  (arg5 : Memref sig .tc .vmem S1x1 .f32) (harg5 : arg5.IsWhole) (arg6 : Memref sig .tc .vmem S128x128 .f32) (harg6 : arg6.IsWhole)
  (arg7 : Memref sig .tc .vmem S1x1 .f32) (harg7 : arg7.IsWhole) (arg8 : Memref sig .tc .vmem S10000x2 .f32) (harg8 : arg8.IsWhole)
  (v22 : FVec F S1x256 .f32) (v24 : FVec F S1x1 .f32) (v25 : Vec F S10000x256 .f32)

abbrev tripG (k : Fin k0_t1_loop.trips) : Prog (TpuEff nD τ sig (Elt F) Λ₀ .tc) Unit :=
  k0_t1_body (F := F) adj (Memref.isWhole_whole _) arg1 harg1 arg2 harg2 arg3 harg3 arg4 harg4 arg5 harg5 arg6 harg6 arg7 harg7 arg8 harg8
    hpM (Memref.isWhole_whole _) hM (Memref.isWhole_whole _) sumM (Memref.isWhole_whole _) buf0 (Memref.isWhole_whole _) buf1 (Memref.isWhole_whole _)
    buf2 (Memref.isWhole_whole _) buf3 (Memref.isWhole_whole _) buf4 (Memref.isWhole_whole _)
    cc0_scratch8 cc0_scratch9 cc0_scratch10 cc0_scratch11 cc0_scratch12 v22 v24 v25 k ()

/-- A trip but the last. -/
theorem trip (k : Fin k0_t1_loop.trips) (hk : k.val < 24) (W : Waits sig Unit) :
   iprop(stored c XA v22 v24 v25 (5 * k.val) ∗ owes (c : Thread nD τ) 0 W ∗ flying c XA (5 * k.val))
   ⊢ wp frame (wpE (defs₀ (F := F)) 𝒱₀ (c : Thread nD τ) none) Set.univ (tripG arg1 harg1 arg2 harg2 arg3 harg3 arg4 harg4 arg5 harg5 arg6 harg6 arg7 harg7 arg8 harg8 v22 v24 v25 k)
      (fun _ => iprop(stored c XA v22 v24 v25 (5 * k.val + 5) ∗ (∃ W, owes (c : Thread nD τ) 0 W) ∗ flying c XA (5 * k.val + 5))) := by
  have h1 := cond1 k
  obtain ⟨h2, h3, h4, h5⟩ := conds k hk
  unfold stored flying
  rw [homes_before _ _ (by omega), homes_after _ _ (by omega)]
  iintro ⟨⟨%fh, %fs, HH, HS, %hv⟩, HW, %f0, %f1, %f2, %f3, %f4, HF0, HF1, HF2, HF3, HB4, HC4, HG4, HG5, HG6, HG7, HG8, HR⟩
  dsimp only [tripG]
  sl_unfold [k0_t1_body]
  sl_exec
  sl_step
  isplitl [HH HS]
  · iexists _, _
    isplitl [HH]; · iexact HH
    isplitl [HS]; · iexact HS
    ipureintro
    exact stored_trip c XA v22 v24 v25 k hv (w0 := trip.sl.v63 c XA k) (w1 := trip.sl.v94 c XA k) (w2 := trip.sl.v125 c XA k)
      (w3 := trip.sl.v156 c XA k) (w4 := trip.sl.v187 c XA k) (buf_read _ _) (buf_read _ _) (buf_read _ _) (buf_read _ _) (buf_read _ _)
  isplitl [HW]
  · iexists _; iexact HW
  iexists _, _, _, _, _
  isplitl [HF0]; · iexact HF0
  isplitl [HF1]; · iexact HF1
  isplitl [HF2]; · iexact HF2
  isplitl [HF3]; · iexact HF3
  isplitl [HB4]; · iexact HB4
  isplitl [HC4]; · iexact HC4
  iframe

/-- The last trip: one chunk to start, every copy waited for. -/
theorem tripLast (k : Fin k0_t1_loop.trips) (hk : ¬ k.val < 24) (W : Waits sig Unit) :
   iprop(stored c XA v22 v24 v25 (5 * k.val) ∗ owes (c : Thread nD τ) 0 W ∗ flying c XA (5 * k.val))
   ⊢ wp frame (wpE (defs₀ (F := F)) 𝒱₀ (c : Thread nD τ) none) Set.univ (tripG arg1 harg1 arg2 harg2 arg3 harg3 arg4 harg4 arg5 harg5 arg6 harg6 arg7 harg7 arg8 harg8 v22 v24 v25 k)
      (fun _ => iprop(stored c XA v22 v24 v25 (5 * k.val + 5) ∗ (∃ W, owes (c : Thread nD τ) 0 W) ∗ idle c XA)) := by
  have h1 := cond1 k
  obtain ⟨h2, h3, h4, h5⟩ := conds_last k hk
  have hk24 : k.val = 24 := by have := k_lt k; omega
  have hh : bigSep (Ring.homeSet 4 (5 * k.val)) (homeP c XA) = iprop(homeP c XA (Ring.bk 125 (5 * k.val + 4)) ∗ bigSep (Rest (5 * k.val)) (homeP c XA)) := by
    rw [hk24]; exact homes_last _
  have hu : bigSep Finset.univ (homeP c XA) = bigSep (Ring.homeSet 4 (5 * k.val + 5)) (homeP c XA) := by
    rw [hk24]; exact homes_univ _
  unfold stored flying idle
  rw [hh, hu, homes_after _ _ (by omega)]
  iintro ⟨⟨%fh, %fs, HH, HS, %hv⟩, HW, %f0, %f1, %f2, %f3, %f4, HF0, HF1, HF2, HF3, HB4, HC4, HG4, HR⟩
  dsimp only [tripG]
  sl_unfold [k0_t1_body]
  sl_exec
  sl_step
  isplitl [HH HS]
  · iexists _, _
    isplitl [HH]; · iexact HH
    isplitl [HS]; · iexact HS
    ipureintro
    exact stored_trip c XA v22 v24 v25 k hv (w0 := tripLast.sl.v63 c XA k) (w1 := tripLast.sl.v94 c XA k) (w2 := tripLast.sl.v125 c XA k)
      (w3 := tripLast.sl.v156 c XA k) (w4 := tripLast.sl.v187 c XA k) (buf_read _ _) (buf_read _ _) (buf_read _ _) (buf_read _ _) (buf_read _ _)
  isplitl [HW]
  · iexists _; iexact HW
  iexists _, _, _, _, _
  isplitl [HF0_dst]; · iexact HF0_dst
  isplitl [HF1_dst]; · iexact HF1_dst
  isplitl [HF2_dst]; · iexact HF2_dst
  isplitl [HF3_dst]; · iexact HF3_dst
  isplitl [HB4]; · iexact HB4
  isplitl [HF0]; · iexact HF0
  isplitl [HF1]; · iexact HF1
  isplitl [HF2]; · iexact HF2
  isplitl [HF3]; · iexact HF3
  isplitl [HC4]; · iexact HC4
  iframe

end Trip

/-! ## The loop's invariant -/

section Loop

variable (c : Dev nD) (XA : Buf (Elt F) (adj.view.loc (c : Thread nD τ)))

set_option warn.classDefReducibility false in
@[sl_loop]
def loopInv (arg1 : Memref sig .tc .vmem S10000x128 .f32) (harg1 : arg1.IsWhole) (arg2 : Memref sig .tc .vmem S10000x128 .f32) (harg2 : arg2.IsWhole)
    (arg3 : Memref sig .tc .vmem S128x128 .f32) (harg3 : arg3.IsWhole) (arg4 : Memref sig .tc .vmem S1x256 .f32) (harg4 : arg4.IsWhole)
    (arg5 : Memref sig .tc .vmem S1x1 .f32) (harg5 : arg5.IsWhole) (arg6 : Memref sig .tc .vmem S128x128 .f32) (harg6 : arg6.IsWhole)
    (arg7 : Memref sig .tc .vmem S1x1 .f32) (harg7 : arg7.IsWhole) (arg8 : Memref sig .tc .vmem S10000x2 .f32) (harg8 : arg8.IsWhole)
    (v22 : FVec F S1x256 .f32) (v24 : FVec F S1x1 .f32) (v25 : Vec F S10000x256 .f32) :
    LoopInvTy_k0_t1 (F := F) Unit ℕ (Pipeline.UD sig nD τ) ℕ 𝒱₀ c none Set.univ adj (Memref.isWhole_whole _) arg1 harg1 arg2 harg2 arg3 harg3 arg4 harg4 arg5 harg5 arg6 harg6 arg7 harg7 arg8 harg8
      hpM (Memref.isWhole_whole _) hM (Memref.isWhole_whole _) sumM (Memref.isWhole_whole _) buf0 (Memref.isWhole_whole _) buf1 (Memref.isWhole_whole _)
      buf2 (Memref.isWhole_whole _) buf3 (Memref.isWhole_whole _) buf4 (Memref.isWhole_whole _)
      cc0_scratch8 cc0_scratch9 cc0_scratch10 cc0_scratch11 cc0_scratch12 v22 v24 v25 where
  inv k _ := resAt c XA v22 v24 v25 (5 * k)
  step k _ := by
    unfold resAt
    rw [if_pos (by have := k_lt k; omega)]
    iintro ⟨HS, ⟨%W, HW⟩, HF⟩
    by_cases hk : k.val < 24
    · rw [if_pos (by omega)]
      iapply (wp_wand_r Idealize.ShloMosaic.frame (wpE (defs₀ (F := F)) 𝒱₀ (c : Thread nD τ) none) Set.univ)
      isplitl
      · iapply (trip c XA arg1 harg1 arg2 harg2 arg3 harg3 arg4 harg4 arg5 harg5 arg6 harg6 arg7 harg7 arg8 harg8 v22 v24 v25 k hk W)
        isplitl [HS]; · iexact HS
        isplitl [HW]; · iexact HW
        iexact HF
      iintro %u H
      iexact H
    · rw [if_neg (by omega)]
      iapply (wp_wand_r Idealize.ShloMosaic.frame (wpE (defs₀ (F := F)) 𝒱₀ (c : Thread nD τ) none) Set.univ)
      isplitl
      · iapply (tripLast c XA arg1 harg1 arg2 harg2 arg3 harg3 arg4 harg4 arg5 harg5 arg6 harg6 arg7 harg7 arg8 harg8 v22 v24 v25 k hk W)
        isplitl [HS]; · iexact HS
        isplitl [HW]; · iexact HW
        iexact HF
      iintro %u H
      iexact H

end Loop

end Cert.Proof.Ideal

end
-- ==== Proof.Ideal.Body.lean ====
/-
  The kernel's body: the two projections, the first four copies, the main loop, the two columns of scores.
-/
module

public import proofs.«01_k».proof.Proof.Ideal.Trip
public import Idealize.ShloMosaic.Lib.Pointwise

@[expose] public section

set_option maxRecDepth 16384
set_option maxHeartbeats 4000000

noncomputable section

namespace Cert.Proof.Ideal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

/-! ## What the body computes, over the contents it is given -/

section Scores

/-- The two projections side by side: columns below 128 of the first sequence's, the others of the second's. -/
def projV (x1 x2 : Vec F S10000x128 .f32) (x3 : Vec F S128x128 .f32) : Vec F S10000x256 .f32 := fun y =>
  if h : (y 1).val < 128 then k0_pay19 x3 x1 (ix2 (n0 := 10000) (n1 := 128) (y 0) ⟨(y 1).val, h⟩)
  else k0_pay20 x3 x2 (ix2 (n0 := 10000) (n1 := 128) (y 0) ⟨(y 1).val - 128, by have : (y 1).val < 256 := (y 1).isLt; omega⟩)

variable (c : Dev nD) (XA : Buf (Elt F) (adj.view.loc (c : Thread nD τ)))

/-- The activations: row `r` is row `r % 80` of chunk `r / 80`. -/
def actV (v22 : FVec F S1x256 .f32) (v24 : FVec F S1x1 .f32) (v25 : Vec F S10000x256 .f32) : Vec F S10000x256 .f32 := fun y =>
  k0_pay8 v22 v24 v25 (words c XA ⟨(y 0).val / 80, by have : (y 0).val < 10000 := (y 0).isLt; omega⟩)
    (ix2 (n0 := 80) (n1 := 256) ⟨(y 0).val % 80, Nat.mod_lt _ (by decide)⟩ (y 1))

/-- The activations' left and right halves. -/
def leftV (h : Vec F S10000x256 .f32) : Vec F S10000x128 .f32 := fun y =>
  h (ix2 (n0 := 10000) (n1 := 256) (y 0) ⟨(y 1).val, by have : (y 1).val < 128 := (y 1).isLt; omega⟩)
def rightV (h : Vec F S10000x256 .f32) : Vec F S10000x128 .f32 := fun y =>
  h (ix2 (n0 := 10000) (n1 := 256) (y 0) ⟨128 + (y 1).val, by have : (y 1).val < 128 := (y 1).isLt; omega⟩)

/-- The two columns of scores from the activations, the column sums, the discriminator and its bias. -/
def colsV (h : Vec F S10000x256 .f32) (s : Vec F S1x128 .f32) (x6 : Vec F S128x128 .f32) (x7 : Vec F S1x1 .f32) : Vec F S10000x2 .f32 := fun y =>
  if (y 1).val < 1 then k0_pay5 s x6 (leftV h) x7 (ix2 (n0 := 10000) (n1 := 1) (y 0) 0)
  else k0_pay6 s x6 (rightV h) x7 (ix2 (n0 := 10000) (n1 := 1) (y 0) 0)

/-- The scores of the whole kernel. -/
def scoreV (x1 x2 : Vec F S10000x128 .f32) (x3 : Vec F S128x128 .f32) (x4 : Vec F S1x256 .f32) (x5 : Vec F S1x1 .f32)
    (x6 : Vec F S128x128 .f32) (x7 : Vec F S1x1 .f32) : Vec F S10000x2 .f32 :=
  colsV (actV c XA (k0_pay22 x4) (k0_pay23 x5) (projV x1 x2 x3)) (sumAcc c XA (k0_pay22 x4) (k0_pay23 x5) (projV x1 x2 x3) 125) x6 x7

/-- All rows stored: the buffer reads as the activations. -/
theorem RowsOK.act {v22 : FVec F S1x256 .f32} {v24 : FVec F S1x1 .f32} {v25 : Vec F S10000x256 .f32} {fh : Buf (Elt F) (hM.view.loc (c : Thread nD τ))}
    (H : RowsOK c XA v22 v24 v25 125 fh) : hM.view.read (Elt F) fh = actV c XA v22 v24 v25 := by
  funext y
  exact H ⟨(y 0).val / 80, by have : (y 0).val < 10000 := (y 0).isLt; omega⟩ (by have : (y 0).val < 10000 := (y 0).isLt; show (y 0).val / 80 < 125; omega) y
    (ix2 (n0 := 80) (n1 := 256) ⟨(y 0).val % 80, Nat.mod_lt _ (by decide)⟩ (y 1))
    (by show (y 0).val = 80 * ((y 0).val / 80) + (y 0).val % 80; omega) rfl

/-- The load of the projections after both stores. -/
theorem proj_eq (w1 w2 : S10000x128.Idx → Elt F .f32) (x1 x2 : Vec F S10000x128 .f32) (x3 : Vec F S128x128 .f32) (h1 : w1 = k0_pay19 x3 x1) (h2 : w2 = k0_pay20 x3 x2) :
    hpM.view.readCov
      [⟨Rect.unit (s := S10000x256) ![0, 128] S10000x128.size inb_S10000x256_S10000x128_0_128, w2⟩,
       ⟨Rect.unit (s := S10000x256) ![0, 0] S10000x128.size inb_S10000x256_S10000x128_0_0, w1⟩]
      (Rect.unit (s := S10000x256) ![0, 0] S10000x256.size inb_S10000x256_S10000x256_0_0).toLoadRect = projV x1 x2 x3 := by
  subst h1; subst h2
  refine (View.readAt_full hpM.view _ inb_S10000x256_S10000x256_0_0).trans ?_
  funext y
  have hy : (y 1).val < 256 := (y 1).isLt
  unfold projV
  by_cases h : (y 1).val < 128
  · rw [dif_pos h]
    refine (View.read_writes_cons_unit_of_not_mem hpM.view _ inb_S10000x256_S10000x128_0_128 _ _ y rfl 1 (Or.inl h)).trans ?_
    exact View.read_writes_cons_unit_of_mem hpM.view _ inb_S10000x256_S10000x128_0_0 _ [] y _ rfl (fun a => by fin_cases a <;> exact (Nat.zero_add _).symm)
  · rw [dif_neg h]
    exact View.read_writes_cons_unit_of_mem hpM.view _ inb_S10000x256_S10000x128_0_128 _ _ y _ rfl
      (fun a => by
        fin_cases a
        · exact (Nat.zero_add _).symm
        · show (y 1).val = 128 + ((y 1).val - 128); omega)

/-- The loads of the two halves. -/
theorem left_eq (fh : Buf (Elt F) (hM.view.loc (c : Thread nD τ))) :
    hM.view.readAt (Elt F) (Rect.unit (s := S10000x256) ![0, 0] S10000x128.size inb_S10000x256_S10000x128_0_0).toLoadRect fh = leftV (hM.view.read (Elt F) fh) := by
  funext y
  exact congrArg (hM.view.read (Elt F) fh) (funext fun a => Fin.ext (by
    fin_cases a
    · show 0 + 1 * (y 0).val = (y 0).val; omega
    · show 0 + 1 * (y 1).val = (y 1).val; omega))
theorem right_eq (fh : Buf (Elt F) (hM.view.loc (c : Thread nD τ))) :
    hM.view.readAt (Elt F) (Rect.unit (s := S10000x256) ![0, 128] S10000x128.size inb_S10000x256_S10000x128_0_128).toLoadRect fh = rightV (hM.view.read (Elt F) fh) := by
  funext y
  exact congrArg (hM.view.read (Elt F) fh) (funext fun a => Fin.ext (by
    fin_cases a
    · show 0 + 1 * (y 0).val = (y 0).val; omega
    · show 128 + 1 * (y 1).val = 128 + (y 1).val; omega))

/-- The result's buffer after both columns' stores. -/
theorem cols_eq (arg8 : Memref sig .tc .vmem S10000x2 .f32) (g : Buf (Elt F) (arg8.view.loc (c : Thread nD τ))) (w5 w6 : S10000x1.Idx → Elt F .f32)
    (h : Vec F S10000x256 .f32) (s : Vec F S1x128 .f32) (x6 : Vec F S128x128 .f32) (x7 : Vec F S1x1 .f32)
    (h5 : w5 = k0_pay5 s x6 (leftV h) x7) (h6 : w6 = k0_pay6 s x6 (rightV h) x7) :
    arg8.view.read (Elt F) (arg8.view.writes (Elt F) g
      [⟨Rect.unit (s := S10000x2) ![0, 1] S10000x1.size inb_S10000x2_S10000x1_0_1, w6⟩,
       ⟨Rect.unit (s := S10000x2) ![0, 0] S10000x1.size inb_S10000x2_S10000x1_0_0, w5⟩]) = colsV h s x6 x7 := by
  subst h5; subst h6
  funext y
  have hy : (y 1).val < 2 := (y 1).isLt
  unfold colsV
  by_cases hc : (y 1).val < 1
  · rw [if_pos hc]
    refine (View.read_writes_cons_unit_of_not_mem arg8.view _ inb_S10000x2_S10000x1_0_1 _ _ y rfl 1 (Or.inl hc)).trans ?_
    exact View.read_writes_cons_unit_of_mem arg8.view _ inb_S10000x2_S10000x1_0_0 _ [] y _ rfl (fun a => by
      fin_cases a
      · exact (Nat.zero_add _).symm
      · show (y 1).val = 0 + 0; omega)
  · rw [if_neg hc]
    exact View.read_writes_cons_unit_of_mem arg8.view _ inb_S10000x2_S10000x1_0_1 _ _ y _ rfl (fun a => by
      fin_cases a
      · exact (Nat.zero_add _).symm
      · show (y 1).val = 1 + 0; omega)

end Scores

section Body

variable (c : Dev nD) (XA : Buf (Elt F) (adj.view.loc (c : Thread nD τ)))
  (arg1 : Memref sig .tc .vmem S10000x128 .f32) (harg1 : arg1.IsWhole) (arg2 : Memref sig .tc .vmem S10000x128 .f32) (harg2 : arg2.IsWhole)
  (arg3 : Memref sig .tc .vmem S128x128 .f32) (harg3 : arg3.IsWhole) (arg4 : Memref sig .tc .vmem S1x256 .f32) (harg4 : arg4.IsWhole)
  (arg5 : Memref sig .tc .vmem S1x1 .f32) (harg5 : arg5.IsWhole) (arg6 : Memref sig .tc .vmem S128x128 .f32) (harg6 : arg6.IsWhole)
  (arg7 : Memref sig .tc .vmem S1x1 .f32) (harg7 : arg7.IsWhole) (arg8 : Memref sig .tc .vmem S10000x2 .f32) (harg8 : arg8.IsWhole)

/-- The kernel on its staging buffers. -/
abbrev bodyG : Prog (TpuEff nD τ sig (Elt F) Λ₀ .tc) PUnit :=
  cc0__dgi_body (F := F) adj (Memref.isWhole_whole _) arg1 harg1 arg2 harg2 arg3 harg3 arg4 harg4 arg5 harg5 arg6 harg6 arg7 harg7 arg8 harg8
    hpM (Memref.isWhole_whole _) hM (Memref.isWhole_whole _) sumM (Memref.isWhole_whole _) buf0 (Memref.isWhole_whole _) buf1 (Memref.isWhole_whole _)
    buf2 (Memref.isWhole_whole _) buf3 (Memref.isWhole_whole _) buf4 (Memref.isWhole_whole _)
    cc0_scratch8 cc0_scratch9 cc0_scratch10 cc0_scratch11 cc0_scratch12

/-! ### The loop's operands, as the body loads them -/

section Operands
variable (g1 : Buf (Elt F) (arg1.view.loc (c : Thread nD τ))) (g2 : Buf (Elt F) (arg2.view.loc (c : Thread nD τ))) (g3 : Buf (Elt F) (arg3.view.loc (c : Thread nD τ)))
  (g4 : Buf (Elt F) (arg4.view.loc (c : Thread nD τ))) (g5 : Buf (Elt F) (arg5.view.loc (c : Thread nD τ)))

abbrev wOf : Vec F S128x128 .f32 := arg3.view.readAt (Elt F) (Rect.unit (s := S128x128) ![0, 0] S128x128.size inb_S128x128_S128x128_0_0).toLoadRect g3
abbrev s1Of : Vec F S10000x128 .f32 := arg1.view.readAt (Elt F) (Rect.unit (s := S10000x128) ![0, 0] S10000x128.size inb_S10000x128_S10000x128_0_0).toLoadRect g1
abbrev s2Of : Vec F S10000x128 .f32 := arg2.view.readAt (Elt F) (Rect.unit (s := S10000x128) ![0, 0] S10000x128.size inb_S10000x128_S10000x128_0_0).toLoadRect g2
abbrev biasOf : FVec F S1x256 .f32 := k0_pay22 (arg4.view.readAt (Elt F) (Rect.unit (s := S1x256) ![0, 0] S1x256.size inb_S1x256_S1x256_0_0).toLoadRect g4)
abbrev slopeOf : FVec F S1x1 .f32 := k0_pay23 (arg5.view.readAt (Elt F) (Rect.unit (s := S1x1) ![0, 0] S1x1.size inb_S1x1_S1x1_0_0).toLoadRect g5)
/-- The two projections side by side. -/
abbrev projOf : Vec F S10000x256 .f32 := hpM.view.readCov
  [⟨Rect.unit (s := S10000x256) ![0, 128] S10000x128.size inb_S10000x256_S10000x128_0_128, k0_pay20 (wOf c arg3 g3) (s2Of c arg2 g2)⟩,
   ⟨Rect.unit (s := S10000x256) ![0, 0] S10000x128.size inb_S10000x256_S10000x128_0_0, k0_pay19 (wOf c arg3 g3) (s1Of c arg1 g1)⟩]
  (Rect.unit (s := S10000x256) ![0, 0] S10000x256.size inb_S10000x256_S10000x256_0_0).toLoadRect

/-- Before the first chunk nothing is stored and the sums are zero. -/
theorem stored_zero (v22 : FVec F S1x256 .f32) (v24 : FVec F S1x1 .f32) (v25 : Vec F S10000x256 .f32) (fh : Buf (Elt F) (hM.view.loc (c : Thread nD τ))) :
    RowsOK c XA v22 v24 v25 (5 * 0) fh ∧ sumM.view.read (Elt F) (sumM.view.writes (Elt F) sumM.view.junk
      [⟨Rect.unit (s := S1x128) ![0, 0] S1x128.size inb_S1x128_S1x128_0_0, k0_pay21⟩]) = sumAcc c XA v22 v24 v25 (5 * 0) :=
  ⟨fun b hb => absurd hb (by omega), View.read_writes_full _ _ _ _ _⟩

end Operands

variable (x1 x2 : Vec F S10000x128 .f32) (x3 : Vec F S128x128 .f32) (x4 : Vec F S1x256 .f32) (x5 : Vec F S1x1 .f32)
  (x6 : Vec F S128x128 .f32) (x7 : Vec F S1x1 .f32)

/-- The staging buffers of the arguments at their blocks. -/
def ins : sProp 𝕄 := iprop(heldP c arg1 (arg1.view.rep x1) ∗ heldP c arg2 (arg2.view.rep x2) ∗ heldP c arg3 (arg3.view.rep x3) ∗ heldP c arg4 (arg4.view.rep x4)
  ∗ heldP c arg5 (arg5.view.rep x5) ∗ heldP c arg6 (arg6.view.rep x6) ∗ heldP c arg7 (arg7.view.rep x7))

/-- The scratch buffers at anything. -/
def scratch : sProp 𝕄 := iprop((∃ f, heldP c hpM f) ∗ (∃ f, heldP c hM f) ∗ (∃ f, heldP c sumM f)
  ∗ (∃ f, heldP c buf0 f) ∗ (∃ f, heldP c buf1 f) ∗ (∃ f, heldP c buf2 f) ∗ (∃ f, heldP c buf3 f) ∗ (∃ f, heldP c buf4 f))

/-- The cells of the copies at zero. -/
def cells0 : sProp 𝕄 := iprop(cellP c cc0_scratch8 ∗ cellP c cc0_scratch9 ∗ cellP c cc0_scratch10 ∗ cellP c cc0_scratch11 ∗ cellP c cc0_scratch12)

/-- The body, from its arguments' blocks to its scores; the matrix, the scratch and the cells given back. -/
theorem bodyRun (g8 : Buf (Elt F) (arg8.view.loc (c : Thread nD τ))) (W : Waits sig Unit) (Q : PUnit → sProp 𝕄) :
    iprop((ins c arg1 arg2 arg3 arg4 arg5 arg6 arg7 x1 x2 x3 x4 x5 x6 x7 ∗ heldP c arg8 g8 ∗ scratch c ∗ cells0 c
        ∗ bigSep Finset.univ (homeP c XA) ∗ owes (c : Thread nD τ) 0 W)
      ∗ ((ins c arg1 arg2 arg3 arg4 arg5 arg6 arg7 x1 x2 x3 x4 x5 x6 x7
          ∗ (∃ g, heldP c arg8 g ∗ ⌜arg8.view.read (Elt F) g = scoreV c XA x1 x2 x3 x4 x5 x6 x7⌝) ∗ scratch c ∗ cells0 c
          ∗ bigSep Finset.univ (homeP c XA) ∗ (∃ W, owes (c : Thread nD τ) 0 W)) -∗ Q ⟨⟩))
      ⊢ wp frame (wpE (defs₀ (F := F)) 𝒱₀ (c : Thread nD τ) none) Set.univ
          (bodyG arg1 harg1 arg2 harg2 arg3 harg3 arg4 harg4 arg5 harg5 arg6 harg6 arg7 harg7 arg8 harg8) Q := by
  rw [homes_first]
  unfold ins scratch cells0
  iintro ⟨⟨⟨H1, H2, H3, H4, H5, H6, H7⟩, H8, ⟨⟨%fp, HP⟩, ⟨%fh, HH⟩, ⟨%fs, HS⟩, ⟨%f0, HB0⟩, ⟨%f1, HB1⟩, ⟨%f2, HB2⟩, ⟨%f3, HB3⟩, ⟨%f4, HB4⟩⟩, ⟨HC0, HC1, HC2, HC3, HC4⟩, ⟨HG0, HG1, HG2, HG3, HG⟩, HW⟩, Hk⟩
  dsimp only [bodyG]
  sl_unfold [cc0__dgi_body, k0_part5]
  have h0 := stored_zero c XA (biasOf c arg4 (arg4.view.rep x4)) (slopeOf c arg5 (arg5.view.rep x5))
    (projOf c arg1 arg2 arg3 (arg1.view.rep x1) (arg2.view.rep x2) (arg3.view.rep x3)) fh
  sl_exec
  sl_step
  have e1 : s1Of c arg1 (arg1.view.rep x1) = x1 := View.readAt_rep_full _ _ _
  have e2 : s2Of c arg2 (arg2.view.rep x2) = x2 := View.readAt_rep_full _ _ _
  have e3 : wOf c arg3 (arg3.view.rep x3) = x3 := View.readAt_rep_full _ _ _
  have e4 : biasOf c arg4 (arg4.view.rep x4) = k0_pay22 x4 := congrArg k0_pay22 (View.readAt_rep_full _ _ _)
  have e5 : slopeOf c arg5 (arg5.view.rep x5) = k0_pay23 x5 := congrArg k0_pay23 (View.readAt_rep_full _ _ _)
  have e9 : projOf c arg1 arg2 arg3 (arg1.view.rep x1) (arg2.view.rep x2) (arg3.view.rep x3) = projV x1 x2 x3 :=
    proj_eq _ _ x1 x2 x3 (by rw [e1, e3]) (by rw [e2, e3])
  iapply Hk
  isplitl [H1 H2 H3 H4 H5 H6 H7]
  · iframe
  isplitl [H8]
  · iexists _
    isplitl [H8]; · iexact H8
    ipureintro
    have hR : RowsOK c XA (k0_pay22 x4) (k0_pay23 x5) (projV x1 x2 x3) 125 fhL0 := by rw [← e4, ← e5, ← e9]; exact hL2.1
    have hS : sumM.view.read (Elt F) fsL1 = sumAcc c XA (k0_pay22 x4) (k0_pay23 x5) (projV x1 x2 x3) 125 := by rw [← e4, ← e5, ← e9]; exact hL2.2
    have e6 := View.readAt_rep_full (Val := Elt F) arg6.view x6 inb_S128x128_S128x128_0_0
    have e7 := View.readAt_rep_full (Val := Elt F) arg7.view x7 inb_S1x1_S1x1_0_0
    have es := (View.readAt_full sumM.view fsL1 inb_S1x128_S1x128_0_0).trans hS
    refine cols_eq c arg8 g8 _ _ _ _ x6 x7 ?_ ?_
    · rw [left_eq, hR.act, es, e6, e7]
    · rw [right_eq, hR.act, es, e6, e7]
  isplitl [HP HH HS HC0 HC1 HC2 HC3 HB4]
  · isplitl [HP]; · iexists _; iexact HP
    isplitl [HH]; · iexists _; iexact HH
    isplitl [HS]; · iexists _; iexact HS
    isplitl [HC0]; · iexists _; iexact HC0
    isplitl [HC1]; · iexists _; iexact HC1
    isplitl [HC2]; · iexists _; iexact HC2
    isplitl [HC3]; · iexists _; iexact HC3
    iexists _; iexact HB4
  icases HG with ⟨HD1, HD2, HD3, HD4, HU⟩
  isplitl [HC4 HD1 HD2 HD3 HD4]
  · iframe
  isplitl [HU]
  · rw [← homes_first]; iexact HU
  iexists _; iexact HW

end Body

end Cert.Proof.Ideal

end
-- ==== Proof.Ideal.Launch.lean ====
/-
  The launch: the region's proof data from the body's run, the matrix whole as its hundred and twenty-five chunks, the
  run of @main, and from it the frame.
-/
module

public import proofs.«01_k».proof.Proof.Ideal.Body
public import proofs.«01_k».proof.Proof.Gen.KernelIdeal.Frame

@[expose] public section

set_option maxRecDepth 16384
set_option maxHeartbeats 4000000

noncomputable section

namespace Cert.Proof.Ideal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

/-! ## The matrix whole is its chunks -/

/-- The elements of chunk `b`. -/
abbrev rowsOf (b : Fin 125) : Finset S10000x10000.Idx := (Rect.unit (s := S10000x10000) (rowOff b) S80x10000.size (rowOff_inb b)).set

theorem mem_rowsOf (b : Fin 125) (y : S10000x10000.Idx) : y ∈ rowsOf b ↔ 80 * b.val ≤ (y 0).val ∧ (y 0).val < 80 * b.val + 80 := by
  rw [Rect.mem_set_unit]
  have h1 : (y 1).val < 10000 := (y 1).isLt
  constructor
  · intro H; exact H 0
  · intro H i; fin_cases i
    · exact H
    · show 0 ≤ (y 1).val ∧ (y 1).val < 0 + 10000; omega

theorem rowsOf_disjoint : ∀ b b' : Fin 125, b ≠ b' → Disjoint (rowsOf b) (rowsOf b') := by
  intro b b' hne; rw [Finset.disjoint_left]; intro y hy hy'; rw [mem_rowsOf] at hy hy'
  exact hne (Fin.ext (by omega))
theorem rowsOf_cover : (Finset.univ : Finset (Fin 125)).biUnion rowsOf = Finset.univ := by
  ext y; simp only [Finset.mem_biUnion, Finset.mem_univ, true_and, iff_true]
  have h0 : (y 0).val < 10000 := (y 0).isLt
  exact ⟨⟨(y 0).val / 80, by omega⟩, by rw [mem_rowsOf]; show 80 * ((y 0).val / 80) ≤ (y 0).val ∧ (y 0).val < 80 * ((y 0).val / 80) + 80; omega⟩
theorem chunk_set (b : Fin 125) : (chunk b).view.set = rowsOf b := View.set_slice_whole _ _

/-- The matrix whole is its chunks, each home. -/
theorem matrix_eq (c : Dev nD) (XA : Buf (Elt F) (adj.view.loc (c : Thread nD τ))) :
    (((c : Thread nD τ).loc main_v2) ↦{fullShare} XA : sProp 𝕄) = bigSep Finset.univ (homeP c XA) := by
  rw [Ring.pointsTo_blocks (ℓ := (c : Thread nD τ).loc main_v2) rowsOf rowsOf_disjoint rowsOf_cover]
  exact bigSep_congr fun b _ => by rw [← chunk_set]; rfl

/-! ## The kernel's own cells and scratch -/

abbrev osem : Fin 5 → SemLoc sig :=
  ![.dma cc0_scratch8.sem, .dma cc0_scratch9.sem, .dma cc0_scratch10.sem, .dma cc0_scratch11.sem, .dma cc0_scratch12.sem]
theorem ownSemFacts : Pipeline.OwnSemFacts spec0 osem := by decide

theorem ownSems0_eq (c : Dev nD) :
    (Pipeline.ownSems0 (Ix := Unit) (Name := ℕ) (U := Pipeline.UD sig nD τ) (Lvl := ℕ) (Val := Elt F) (τ := τ) osem c : sProp 𝕄) = cells0 c := by
  unfold Pipeline.ownSems0
  exact bigSep_univ_eq_bigSepL [(0 : Fin 5), 1, 2, 3, 4] (by decide) (by decide) _

/-- A whole buffer at some contents, both ways. -/
theorem held_eq (c : Dev nD) (b : Ref sig .tc) :
    (iprop(∃ f, heldP c (Memref.whole b) f) : sProp 𝕄) = iprop(∃ f : Buf (Elt F) ((c : Thread nD τ).loc b), ((c : Thread nD τ).loc b) ↦{fullShare} f) := by
  unfold heldP
  rw [show (Memref.whole b).view.set = Finset.univ from View.set_whole b]

theorem scratch_eq (c : Dev nD) :
    (Pipeline.scopedRest (Ix := Unit) (Name := ℕ) (U := Pipeline.UD sig nD τ) (Lvl := ℕ) (Val := Elt F) spec0 c : sProp 𝕄) = scratch c := by
  rw [scopedRest0_eq]
  unfold scratch
  rw [held_eq, held_eq, held_eq, held_eq, held_eq, held_eq, held_eq, held_eq]

/-! ## The proof data -/

section Launch
variable (m : (ℓ : Loc nD τ sig) → Buf (Elt F) ℓ) (ρ : Dev nD → PrngReg)

/-- What holds between points: scratch, generator, cells, the matrix's chunks. -/
def Φ (c : Dev nD) : sProp 𝕄 :=
  iprop(scratch c ∗ (∃ r, prngReg c r) ∗ cells0 c ∗ bigSep Finset.univ (homeP c (V m c main_v2)))

abbrev st0 (t : Fin cfg0.N) : Memref sig .tc .vmem S10000x128 .f32 := win0_0.stage (cfg0.slots t 0)
abbrev st1 (t : Fin cfg0.N) : Memref sig .tc .vmem S10000x128 .f32 := win0_1.stage (cfg0.slots t 1)
abbrev st2 (t : Fin cfg0.N) : Memref sig .tc .vmem S128x128 .f32 := win0_2.stage (cfg0.slots t 2)
abbrev st3 (t : Fin cfg0.N) : Memref sig .tc .vmem S1x256 .f32 := win0_3.stage (cfg0.slots t 3)
abbrev st4 (t : Fin cfg0.N) : Memref sig .tc .vmem S1x1 .f32 := win0_4.stage (cfg0.slots t 4)
abbrev st5 (t : Fin cfg0.N) : Memref sig .tc .vmem S128x128 .f32 := win0_5.stage (cfg0.slots t 5)
abbrev st6 (t : Fin cfg0.N) : Memref sig .tc .vmem S1x1 .f32 := win0_6.stage (cfg0.slots t 6)
abbrev st7 (t : Fin cfg0.N) : Memref sig .tc .vmem S10000x2 .f32 := win0_7.stage (cfg0.slots t 7)

/-- What the body leaves in the result's staging buffer. -/
def outAt (c : Dev nD) (t : Fin cfg0.N) : Vec F S10000x2 .f32 :=
  scoreV c (V m c main_v2) (iblk m c 0 t) (iblk m c 1 t) (iblk m c 2 t) (iblk m c 3 t) (iblk m c 4 t) (iblk m c 5 t) (iblk m c 6 t)

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outAt m c t
  Φ _ := Φ m c
  q _ := fullShare
  owed _ := 0

/-- A fetched window's staging buffer holds its block. -/
theorem before_of (c : Dev nD) (w : Fin cfg0.W) (t : Fin cfg0.N) (h : (cfg0.win w).fetch t = true) (d) : (dats m 0 c).before w t d = (dats m 0 c).fetched w t d := by
  unfold Dat.before; rw [if_pos h]

theorem before_w0 (c : Dev nD) (t : Fin cfg0.N) (d) : (dats m 0 c).before 0 t d = iblk m c 0 t := (before_of m c 0 t (fetch0_0 t) d).trans rfl
theorem before_w1 (c : Dev nD) (t : Fin cfg0.N) (d) : (dats m 0 c).before 1 t d = iblk m c 1 t := (before_of m c 1 t (fetch0_1 t) d).trans rfl
theorem before_w2 (c : Dev nD) (t : Fin cfg0.N) (d) : (dats m 0 c).before 2 t d = iblk m c 2 t := (before_of m c 2 t (fetch0_2 t) d).trans rfl
theorem before_w3 (c : Dev nD) (t : Fin cfg0.N) (d) : (dats m 0 c).before 3 t d = iblk m c 3 t := (before_of m c 3 t (fetch0_3 t) d).trans rfl
theorem before_w4 (c : Dev nD) (t : Fin cfg0.N) (d) : (dats m 0 c).before 4 t d = iblk m c 4 t := (before_of m c 4 t (fetch0_4 t) d).trans rfl
theorem before_w5 (c : Dev nD) (t : Fin cfg0.N) (d) : (dats m 0 c).before 5 t d = iblk m c 5 t := (before_of m c 5 t (fetch0_5 t) d).trans rfl
theorem before_w6 (c : Dev nD) (t : Fin cfg0.N) (d) : (dats m 0 c).before 6 t d = iblk m c 6 t := (before_of m c 6 t (fetch0_6 t) d).trans rfl
theorem after_w0 (c : Dev nD) (t : Fin cfg0.N) : (dats m 0 c).after 0 t = iblk m c 0 t := by dsimp only [dats]
theorem after_w1 (c : Dev nD) (t : Fin cfg0.N) : (dats m 0 c).after 1 t = iblk m c 1 t := by dsimp only [dats]
theorem after_w2 (c : Dev nD) (t : Fin cfg0.N) : (dats m 0 c).after 2 t = iblk m c 2 t := by dsimp only [dats]
theorem after_w3 (c : Dev nD) (t : Fin cfg0.N) : (dats m 0 c).after 3 t = iblk m c 3 t := by dsimp only [dats]
theorem after_w4 (c : Dev nD) (t : Fin cfg0.N) : (dats m 0 c).after 4 t = iblk m c 4 t := by dsimp only [dats]
theorem after_w5 (c : Dev nD) (t : Fin cfg0.N) : (dats m 0 c).after 5 t = iblk m c 5 t := by dsimp only [dats]
theorem after_w6 (c : Dev nD) (t : Fin cfg0.N) : (dats m 0 c).after 6 t = iblk m c 6 t := by dsimp only [dats]
theorem after_w7 (c : Dev nD) (t : Fin cfg0.N) : (dats m 0 c).after 7 t = outAt m c t := by dsimp only [dats]

/-! ## The body obligation -/

theorem defs_tc : (defs₀ (F := F)) .tc cfg0.body
    = fun a => bodyG (win0_0.stage (a.2 0)) (hstage0_0 0) (win0_1.stage (a.2 1)) (hstage0_1 0) (win0_2.stage (a.2 2)) (hstage0_2 0)
        (win0_3.stage (a.2 3)) (hstage0_3 0) (win0_4.stage (a.2 4)) (hstage0_4 0) (win0_5.stage (a.2 5)) (hstage0_5 0)
        (win0_6.stage (a.2 6)) (hstage0_6 0) (win0_7.stage (a.2 7)) (hstage0_7 0) := rfl
theorem prog_eq (t : Fin cfg0.N) : (defs₀ (F := F)) .tc cfg0.body (cfg0.bodyArgs t (cfg0.slots t))
    = bodyG (st0 t) (hstage0_0 0) (st1 t) (hstage0_1 0) (st2 t) (hstage0_2 0) (st3 t) (hstage0_3 0) (st4 t) (hstage0_4 0)
        (st5 t) (hstage0_5 0) (st6 t) (hstage0_6 0) (st7 t) (hstage0_7 0) :=
  (congrFun defs_tc _).trans rfl

/-- A staging buffer held at contents that read `x` is held at `x`'s representative. -/
theorem held_rep (c : Dev nD) {sp : Space} {s : Shape} {e : EltTy} (M : Memref sig .tc sp s e) (g : Buf (Elt F) (M.view.loc (c : Thread nD τ)))
    (x : s.Idx → Elt F e) (h : M.view.read (Elt F) g = x) : (heldP c M g : sProp 𝕄) ⊢ heldP c M (M.view.rep x) := by
  subst h; exact pointsTo_rep_entails (c : Thread nD τ) M g fullShare

set_option backward.isDefEq.respectTransparency.types false in
theorem body_obligation (c : Dev nD) : BodyObligation (dats (F := F) m 0 c) (defs₀ (F := F)) 𝒱₀ () Set.univ := fun t => by
  rw [bigSep_W0, bigSep_W0]
  dsimp only
  simp only [before_w0, before_w1, before_w2, before_w3, before_w4, before_w5, before_w6, after_w0, after_w1, after_w2, after_w3, after_w4, after_w5, after_w6, after_w7]
  rw [show (dats m 0 c).Φ t.castSucc = Φ m c from rfl, show (dats m 0 c).Φ t.succ = Φ m c from rfl]
  unfold Dat.owesAt Pipeline.owesWithin
  rw [show (dats m 0 c).owed t.castSucc = 0 from rfl, show (dats m 0 c).owed t.succ = 0 from rfl]
  unfold owns Φ
  iintro ⟨⟨HS, HR, HC, HU⟩, ⟨%W, -, HW⟩, ⟨%d0, %g0, %h0, H0⟩, ⟨%d1, %g1, %h1, H1⟩, ⟨%d2, %g2, %h2, H2⟩, ⟨%d3, %g3, %h3, H3⟩,
    ⟨%d4, %g4, %h4, H4⟩, ⟨%d5, %g5, %h5, H5⟩, ⟨%d6, %g6, %h6, H6⟩, ⟨%d7, %g7, -, H7⟩⟩
  ihave H0' := (held_rep c (st0 t) g0 _ h0) $$ H0
  ihave H1' := (held_rep c (st1 t) g1 _ h1) $$ H1
  ihave H2' := (held_rep c (st2 t) g2 _ h2) $$ H2
  ihave H3' := (held_rep c (st3 t) g3 _ h3) $$ H3
  ihave H4' := (held_rep c (st4 t) g4 _ h4) $$ H4
  ihave H5' := (held_rep c (st5 t) g5 _ h5) $$ H5
  ihave H6' := (held_rep c (st6 t) g6 _ h6) $$ H6
  sl_rw [prog_eq t]
  iapply (bodyRun c (V m c main_v2) (st0 t) (hstage0_0 0) (st1 t) (hstage0_1 0) (st2 t) (hstage0_2 0) (st3 t) (hstage0_3 0) (st4 t) (hstage0_4 0)
        (st5 t) (hstage0_5 0) (st6 t) (hstage0_6 0) (st7 t) (hstage0_7 0) (iblk m c 0 t) (iblk m c 1 t) (iblk m c 2 t) (iblk m c 3 t) (iblk m c 4 t) (iblk m c 5 t) (iblk m c 6 t) g7 W)
  isplitl [H0' H1' H2' H3' H4' H5' H6' H7 HS HC HU HW]
  · unfold ins
    iframe
  · unfold ins
    iintro ⟨⟨H0, H1, H2, H3, H4, H5, H6⟩, ⟨%g, H7, %h7⟩, HS, HC, HU, ⟨%W', HW⟩⟩
    isplitl [HS HR HC HU]
    · iframe
    isplitl [HW]
    · iexists W'; isplitr; · ipureintro; exact fun _ _ => Or.inl trivial
      iexact HW
    isplitl [H0]
    · iexists _; isplitr; · ipureintro; exact View.read_rep _ _
      iexact H0
    isplitl [H1]
    · iexists _; isplitr; · ipureintro; exact View.read_rep _ _
      iexact H1
    isplitl [H2]
    · iexists _; isplitr; · ipureintro; exact View.read_rep _ _
      iexact H2
    isplitl [H3]
    · iexists _; isplitr; · ipureintro; exact View.read_rep _ _
      iexact H3
    isplitl [H4]
    · iexists _; isplitr; · ipureintro; exact View.read_rep _ _
      iexact H4
    isplitl [H5]
    · iexists _; isplitr; · ipureintro; exact View.read_rep _ _
      iexact H5
    isplitl [H6]
    · iexists _; isplitr; · ipureintro; exact View.read_rep _ _
      iexact H6
    iexists _; isplitr; · ipureintro; exact h7
    iexact H7

/-! ## The run -/

theorem region_eq (c : Dev nD) : Pipeline.ΦD osem spec0 {main_v2} (V m) c = Φ m c := by
  unfold Pipeline.ΦD Φ
  rw [scratch_eq, ownSems0_eq, bigSep_singleton, matrix_eq]

/-- The host operations after the region touch the windows' arrays and buffers outside the region, the matrix not. -/
theorem tail_sub : ∀ ops ∈ ([hostOps1] : List (List (HloOp τ sig (Elt F)))), ∀ op ∈ ops,
    op.bufs ⊆ Pipeline.tailRefsBut sig Pipeline.Prefetch.none spec0 {main_v2} := by
  intro ops hops op hop
  rw [List.mem_singleton.mp hops] at hop
  refine Pipeline.sub_tailRefsBut _ spec0 _ op ((List.forall_iff_forall_mem.mp hostOps1_sub) op hop) (fun k => k.elim0) fun b hb => ?_
  rw [Finset.mem_singleton.mp hb]
  simp only [hostOps1, List.mem_cons, List.mem_nil_iff, or_false] at hop
  rcases hop with rfl | rfl | rfl | rfl | rfl | rfl | rfl
  all_goals
    simp only [StableHlo.unary_bufs, StableHlo.reshape_bufs, StableHlo.binary_bufs, Finset.mem_insert, Finset.mem_singleton, not_or]
    repeat' apply And.intro
  all_goals exact StableHlo.devRef_ne_of_ne (by decide)

set_option maxHeartbeats 8000000 in
theorem main_around : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The run of @main: the arrays at the proof data's contents, the other buffers after the last host operations, every
    counter at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_dma_around cfgs (dats m) 0 launch0 osem defs₀ 𝒱₀ ownSemFacts {main_v2} (by decide) m ρ main
    (fun c => (body_obligation m c).loose) (fun c => (dats m 0 c).share_full fun _ => rfl) (fun _ _ => rfl)
    (V0 m) [hostOps1] tail_sub (sfx_fresh) (sfx_keeps) (main_around m) (fun _ _ => rfl)
    (fun c => (region_eq m c) ▸ .rfl) (fun c => (region_eq m c) ▸ .rfl) _ (fun _ h => h)

/-! ## The frame -/

/-- A buffer neither host stretch writes and no window stages ends as launched. -/
theorem kept (c : Dev nD) (b : Ref sig .tc) (h1 : ∀ op ∈ ([hostOps1] : List (List (HloOp τ sig (Elt F)))).flatten, Proc.devRef .tc b ∉ op.writes)
    (hw : ∀ w, Pipeline.arrRef spec0 w ≠ b) (hV : V m c b = m ((c : Thread nD τ).loc b)) :
    Pipeline.afterTail₀ cfgs (dats m) 0 (V0 m) [hostOps1] c b = m ((c : Thread nD τ).loc b) := by
  unfold Pipeline.afterTail₀
  rw [StableHlo.after_of_forall_not_mem (b := Proc.devRef .tc b) _ _ h1, Pipeline.withArrays_of_ne _ c (V0 m c) _ b hw]
  exact hV

/-- What a buffer is that no host operation after the region writes. -/
theorem unwritten (b : Ref sig .tc) (h : b ≠ main_v8 ∧ b ≠ main_v9 ∧ b ≠ main_v10 ∧ b ≠ main_v11 ∧ b ≠ main_v12 ∧ b ≠ main_v13 ∧ b ≠ main_v14) :
    ∀ op ∈ ([hostOps1] : List (List (HloOp τ sig (Elt F)))).flatten, Proc.devRef .tc b ∉ op.writes := by
  obtain ⟨a1, a2, a3, a4, a5, a6, a7⟩ := h
  refine List.forall_iff_forall_mem.mp ?_
  simp only [hostOps1, List.flatten_cons, List.flatten_nil, List.append_nil, List.cons_append, List.nil_append, List.Forall,
    StableHlo.unary_writes, StableHlo.binary_writes, StableHlo.reshape_writes, Finset.mem_singleton]
  refine ⟨?_, ?_, ?_, ?_, ?_, ?_, ?_⟩ <;> (refine StableHlo.devRef_ne_of_ne ?_; assumption)

/-- The memory `mem` holds the nine arguments as launched. -/
abbrev ArgsKept (mem : (ℓ : Loc nD τ sig) → Buf (Elt F) ℓ) (c : Dev nD) : Prop :=
    mem ((c.tc : Thread nD τ).loc main_arg0) = m ((c.tc : Thread nD τ).loc main_arg0)
      ∧ mem ((c.tc : Thread nD τ).loc main_arg1) = m ((c.tc : Thread nD τ).loc main_arg1)
      ∧ mem ((c.tc : Thread nD τ).loc main_arg2) = m ((c.tc : Thread nD τ).loc main_arg2)
      ∧ mem ((c.tc : Thread nD τ).loc main_arg3) = m ((c.tc : Thread nD τ).loc main_arg3)
      ∧ mem ((c.tc : Thread nD τ).loc main_arg4) = m ((c.tc : Thread nD τ).loc main_arg4)
      ∧ mem ((c.tc : Thread nD τ).loc main_arg5) = m ((c.tc : Thread nD τ).loc main_arg5)
      ∧ mem ((c.tc : Thread nD τ).loc main_arg6) = m ((c.tc : Thread nD τ).loc main_arg6)
      ∧ mem ((c.tc : Thread nD τ).loc main_arg7) = m ((c.tc : Thread nD τ).loc main_arg7)
      ∧ mem ((c.tc : Thread nD τ).loc main_arg8) = m ((c.tc : Thread nD τ).loc main_arg8)

/-- The arguments at the end of the run. -/
theorem args_kept {r : PUnit × MemSt nD τ sig (Elt F)}
    (h : Pipeline.FramePost cfgs (dats m) 0 (Pipeline.afterTail₀ cfgs (dats m) 0 (V0 m) [hostOps1]) r) (c : Dev nD) : ArgsKept m r.2.mem c := by
  have hk : ∀ b : Ref sig .tc, b ∈ Pipeline.restRefs sig spec0 → _ → _ → V m c b = m ((c : Thread nD τ).loc b) → r.2.mem ((c.tc : Thread nD τ).loc b) = m ((c.tc : Thread nD τ).loc b) :=
    fun b hb h1 hw hV => ((h c).2 b hb).trans (kept m c b (unwritten b h1) hw hV)
  refine ⟨hk main_arg0 (Pipeline.mem_restRefs_of _ (by decide) (by decide)) (by decide) (by decide) (V_main_arg0 m c),
    hk main_arg1 (Pipeline.mem_restRefs_of _ (by decide) (by decide)) (by decide) (by decide) (V_main_arg1 m c),
    hk main_arg2 (Pipeline.mem_restRefs_of _ (by decide) (by decide)) (by decide) (by decide) (V_main_arg2 m c),
    hk main_arg3 (Pipeline.mem_restRefs_of _ (by decide) (by decide)) (by decide) (by decide) (V_main_arg3 m c),
    ((h c).1 2).trans (((dats m 0 c).arrAt_in 2 rfl _).trans (V_main_arg4 m c)),
    hk main_arg5 (Pipeline.mem_restRefs_of _ (by decide) (by decide)) (by decide) (by decide) (V_main_arg5 m c),
    hk main_arg6 (Pipeline.mem_restRefs_of _ (by decide) (by decide)) (by decide) (by decide) (V_main_arg6 m c),
    ((h c).1 5).trans (((dats m 0 c).arrAt_in 5 rfl _).trans (V_main_arg7 m c)),
    hk main_arg8 (Pipeline.mem_restRefs_of _ (by decide) (by decide)) (by decide) (by decide) (V_main_arg8 m c)⟩

/-- The program runs to quiescence, its arguments unchanged. -/
theorem frame : θ_run defs (onTc (τ := τ) (main (F := F))) ⟨m, fun _ => 0, ρ⟩ (fun r => (∀ c, ArgsKept m r.2.mem c) ∧ r.2.sem = fun _ => 0) :=
  (θ_run defs _ _).mono (fun _ h => ⟨fun c => args_kept m h.1 c, h.2⟩) (run_main m ρ)

end Launch

end Cert.Proof.Ideal

end
-- ==== Proof.Words.Frame.lean ====
/-
  The kernel at the float words. It is the ideal program read at the float words, where the named constant is its word, so
  it has that program's frame.
-/
module

public import proofs.«01_k».proof.Defs
public import proofs.«01_k».proof.Proof.Gen.Kernel.Skeleton
public import proofs.«01_k».proof.Proof.Ideal.Launch

@[expose] public section

set_option maxRecDepth 16384
set_option maxHeartbeats 4000000
noncomputable section

namespace Cert.Proof.Words
open Idealize.ShloMosaic Idealize.SL.Sem

/-- At the float words a named constant is its word. -/
local instance : Named Bits where
  named _ _ {φ} bits := Scalar.ofBits φ bits

set_option backward.isDefEq.respectTransparency.types false

/-- The two programs' tables of bodies. -/
theorem bodies_eq : Cert.KernelIdeal.defs₀ (F := Bits) = Cert.Kernel.defs₀ (F := Bits) :=
  congrArg Defs.onTc (funext fun l => funext fun a => match l, a with
    | 0, (_, _) => rfl
    | ⟨_ + 1, h⟩, _ => absurd h (Nat.not_lt.2 (Nat.le_add_left _ _)))

/-- Their tables of every function. -/
theorem defs_eq : Cert.KernelIdeal.defs (F := Bits) = Cert.Kernel.defs (F := Bits) :=
  congrArg (Pipeline.defs (Cert.Kernel.pcfgs (F := Bits))) bodies_eq

/-- The kernel runs to quiescence, its arguments unchanged. -/
theorem frame_kernel : Cert.quiescent_Kernel := fun m ρ _ =>
  (congrArg (fun d => θ_run d (onTc (τ := Cert.Kernel.τ) (Cert.Kernel.main (F := Bits))) ⟨m, fun _ => 0, ρ⟩ _) defs_eq).mp (Ideal.frame (F := Bits) m ρ)

end Cert.Proof.Words
end
-- ==== Proof.Values.Blocks.lean ====
/-
  What the kernel's result array holds after the run, and the program's result after the last host operations.
-/
module

public import proofs.«01_k».proof.Proof.Ideal.Launch
public import Idealize.ShloMosaic.Lib.Pipeline.ValueKit
public import Idealize.ShloMosaic.Lib.Claim

@[expose] public section

set_option maxRecDepth 16384
set_option maxHeartbeats 4000000
noncomputable section

namespace Cert.Proof.Ideal
open Cert.KernelIdeal Cert.KernelIdeal.Gen
open Idealize.ShloMosaic Idealize.ShloMosaic.TcCoe Idealize.SL.Sem

variable {F : FTy → Type} [FloatOps F] [Named F]
variable (m : (ℓ : Loc nD τ sig) → Buf (Elt F) ℓ) (c : Dev nD)

/-! ## A window's block is its whole array -/

/-- The one point's block of every window is block zero. -/
theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] :=
  (by decide +kernel : ∀ t : Fin grid0.N, _)

theorem blk0 (t : Fin cfg0.N) : iblk m c 0 t = V m c main_v0 := by blk_ext! [iblk, V, idx t]
theorem blk1 (t : Fin cfg0.N) : iblk m c 1 t = V m c main_v1 := by blk_ext! [iblk, V, idx t]
theorem blk2 (t : Fin cfg0.N) : iblk m c 2 t = V m c main_arg4 := by blk_ext! [iblk, V, idx t]
theorem blk3 (t : Fin cfg0.N) : iblk m c 3 t = V m c main_v4 := by blk_ext! [iblk, V, idx t]
theorem blk4 (t : Fin cfg0.N) : iblk m c 4 t = V m c main_v5 := by blk_ext! [iblk, V, idx t]
theorem blk5 (t : Fin cfg0.N) : iblk m c 5 t = V m c main_arg7 := by blk_ext! [iblk, V, idx t]
theorem blk6 (t : Fin cfg0.N) : iblk m c 6 t = V m c main_v6 := by blk_ext! [iblk, V, idx t]

/-- The scores of the operands as the region finds them. -/
def scores : Vec F S10000x2 .f32 :=
  scoreV c (V m c main_v2) (V m c main_v0) (V m c main_v1) (V m c main_arg4) (V m c main_v4) (V m c main_v5) (V m c main_arg7) (V m c main_v6)

theorem outAt_eq (t : Fin cfg0.N) : outAt m c t = scores m c := by
  unfold outAt scores
  rw [blk0, blk1, blk2, blk3, blk4, blk5, blk6]

theorem result_arr : (dats m 0 c).arrAt 7 cfg0.N = scores m c := by
  refine (dats m 0 c).arrAt_eq_of_after_last 7 t0_0 (by decide +kernel) _ fun j => ?_
  blk_simp
  rw [after_w7, outAt_eq]

/-! ## The last host operations -/

/-- A column of the scores laid out as one row. -/
abbrev column (off : Fin 2 → ℕ) (h : S10000x2.Slices off S10000x1) (s : FVec F S10000x2 .f32) : FVec F S1x10000 .f32 :=
  shapeCast S1x10000 (shapeCast S10000 (extractStridedSlice S10000x1 off s h) shapeCasts_S10000x1_S10000) shapeCasts_S10000_S1x10000

/-- The result array as the last host operations find it. -/
theorem found : Pipeline.withArrays (cfgs 0).spec c (V0 m c) (fun w => (dats m 0 c).arrAt w (cfgs 0).N) (Proc.tc.devRef main_v7) = scores m c :=
  (Pipeline.withArrays_arr spec0 (by decide) c (V0 m c) (fun w => (dats m 0 c).arrAt w cfg0.N) 7).trans (result_arr m c)

/-- The program's result: the two columns of scores, one after the other. -/
theorem result_val : Pipeline.afterTail₀ cfgs (dats m) 0 (V0 m) [hostOps1] c main_v14
    = concatenate S1x20000 1 [⟨S1x10000, column ![0, 0] slices_S10000x2_S10000x1_0_0 (scores m c)⟩,
        ⟨S1x10000, column ![0, 1] slices_S10000x2_S10000x1_0_1 (scores m c)⟩] concatenates_S1x10000_S1x10000_S1x20000_d1 := by
  unfold Pipeline.afterTail₀
  simp only [List.flatten_cons, List.flatten_nil, List.append_nil, hostOps1]
  after_results_simp
  refine congrArg₂ (fun a b : FVec F S1x10000 .f32 => concatenate S1x20000 1 [⟨S1x10000, a⟩, ⟨S1x10000, b⟩] concatenates_S1x10000_S1x10000_S1x20000_d1) ?_ ?_ <;>
  · after_results_simp
    rw [found]
    rfl

end Cert.Proof.Ideal
end
-- ==== Proof.Values.Spec.lean ====
/-
  The mathematics both programs compute, entry by entry over the extended reals: a graph convolution of two feature
  matrices, the mean row of the first squashed to a gate, and the bilinear score of every row against that gate.
-/
module

public import Idealize.ShloMosaic.PureOps.Ideal

@[expose] public section

noncomputable section

namespace Cert.Proof.Spec
open Idealize.ShloMosaic

/-- Keep a positive number, scale any other. -/
def prelu (α g : EReal) : EReal := if 0 < g then g else α * g

/-- A graph convolution's entry before the activation. -/
def conv (A : Fin 10000 → Fin 10000 → EReal) (W : Fin 128 → Fin 128 → EReal) (b : Fin 128 → EReal)
    (x : Fin 10000 → Fin 128 → EReal) (r : Fin 10000) (j : Fin 128) : EReal :=
  (∑ k : Fin 10000, A r k * ∑ i : Fin 128, x k i * W i j) + b j

/-- The hidden features of one row. -/
def hidden (A : Fin 10000 → Fin 10000 → EReal) (W : Fin 128 → Fin 128 → EReal) (b : Fin 128 → EReal) (α : EReal)
    (x : Fin 10000 → Fin 128 → EReal) (r : Fin 10000) (j : Fin 128) : EReal := prelu α (conv A W b x r j)

/-- The gate: the logistic of a column's mean. -/
def gate (h : Fin 10000 → Fin 128 → EReal) (j : Fin 128) : EReal :=
  Ideal.logistic ((∑ r : Fin 10000, h r j) * ((10000⁻¹ : ℝ) : EReal))

/-- The bilinear score of one row against a gate. -/
def score (h : Fin 10000 → Fin 128 → EReal) (g : Fin 128 → EReal) (D : Fin 128 → Fin 128 → EReal) (d : EReal)
    (r : Fin 10000) : EReal := (∑ j : Fin 128, (∑ i : Fin 128, h r i * D i j) * g j) + d

/-- The result: the scores of the first features' rows, then of the second's, all against the first's gate. -/
def result (h1 h2 : Fin 10000 → Fin 128 → EReal) (D : Fin 128 → Fin 128 → EReal) (d : EReal) (p : Fin 20000) : EReal :=
  if h : p.val < 10000 then score h1 (gate h1) D d ⟨p.val, h⟩ else score h2 (gate h1) D d ⟨p.val - 10000, by omega⟩

/-- Hidden features of equal matrices are equal. -/
theorem hidden_congr {A A' : Fin 10000 → Fin 10000 → EReal} {W W' : Fin 128 → Fin 128 → EReal} {b b' : Fin 128 → EReal} {α α' : EReal}
    {x x' : Fin 10000 → Fin 128 → EReal} (hA : ∀ r k, A r k = A' r k) (hW : ∀ i j, W i j = W' i j) (hb : ∀ j, b j = b' j) (hα : α = α')
    (hx : ∀ k i, x k i = x' k i) : hidden A W b α x = hidden A' W' b' α' x' := by
  obtain rfl : A = A' := funext fun r => funext (hA r)
  obtain rfl : W = W' := funext fun i => funext (hW i)
  obtain rfl : b = b' := funext hb
  obtain rfl : x = x' := funext fun k => funext (hx k)
  rw [hα]

/-- Scores of equal features are equal. -/
theorem score_congr {h h' : Fin 10000 → Fin 128 → EReal} {g g' : Fin 128 → EReal} {D D' : Fin 128 → Fin 128 → EReal} {d d' : EReal}
    (hh : h = h') (hg : g = g') (hD : ∀ i j, D i j = D' i j) (hd : d = d') (r : Fin 10000) : score h g D d r = score h' g' D' d' r := by
  obtain rfl : D = D' := funext fun i => funext (hD i)
  rw [hh, hg, hd]

end Cert.Proof.Spec
end
-- ==== Proof.Values.Kernel.lean ====
/-
  The kernel's two columns of scores, read entry by entry over the extended reals.
-/
module

public import proofs.«01_k».proof.Proof.Ideal.Body
public import proofs.«01_k».proof.Proof.Values.Spec
public import Idealize.ShloMosaic.Lib.Pointwise

@[expose] public section

set_option maxRecDepth 16384
noncomputable section

namespace Cert.Proof.Kernel
open Cert.KernelIdeal Cert.KernelIdeal.Gen Cert.Proof.Ideal
open Idealize.ShloMosaic Idealize.ShloMosaic.TcCoe

/-! ## The stored values -/

/-- A feature column of the first half, and of the second. -/
abbrev lo (j : Fin 128) : Fin 256 := ⟨j.val, by omega⟩
abbrev hi (j : Fin 128) : Fin 256 := ⟨128 + j.val, by omega⟩

theorem proj_lo (x1 x2 : Vec Ideal S10000x128 .f32) (W : Vec Ideal S128x128 .f32) (k : Fin 10000) (j : Fin 128) :
    projV x1 x2 W (ix2 k (lo j)) = ∑ i : Fin 128, x1 (ix2 k i) * W (ix2 i j) := by
  refine (dif_pos (show j.val < 128 from j.isLt)).trans ?_
  show k0_pay19 W x1 (ix2 k j) = _
  pointwise [k0_pay19]
theorem proj_hi (x1 x2 : Vec Ideal S10000x128 .f32) (W : Vec Ideal S128x128 .f32) (k : Fin 10000) (j : Fin 128) :
    projV x1 x2 W (ix2 k (hi j)) = ∑ i : Fin 128, x2 (ix2 k i) * W (ix2 i j) := by
  refine (dif_neg (show ¬ 128 + j.val < 128 by omega)).trans ?_
  have e : (⟨128 + j.val - 128, by omega⟩ : Fin 128) = j := Fin.ext (by show 128 + j.val - 128 = j.val; omega)
  show k0_pay20 W x2 (ix2 k ⟨128 + j.val - 128, _⟩) = _
  rw [e]
  pointwise [k0_pay20]

theorem bias_eq (v : Vec Ideal S1x256 .f32) (q : Fin 256) : k0_pay22 v (ix2 0 q) = v (ix2 0 q) := by pointwise [k0_pay22]
theorem slope_eq (v : Vec Ideal S1x1 .f32) : k0_pay23 v (ix2 0 0) = v (ix2 0 0) := by pointwise [k0_pay23]

/-- A chunk's activations. -/
theorem act_eq (v22 : FVec Ideal S1x256 .f32) (v24 : FVec Ideal S1x1 .f32) (v25 : Vec Ideal S10000x256 .f32) (w : Vec Ideal S80x10000 .f32)
    (t : Fin 80) (q : Fin 256) : k0_pay8 v22 v24 v25 w (ix2 t q)
      = Spec.prelu (v24 (ix2 0 0)) ((∑ k : Fin 10000, w (ix2 t k) * v25 (ix2 k q)) + v22 (ix2 0 q)) := by
  pointwise [k0_pay8, k0_pay7, Spec.prelu]

/-- A chunk's column sums added to the sums before it. -/
theorem sum_eq (v22 : FVec Ideal S1x256 .f32) (v24 : FVec Ideal S1x1 .f32) (v25 : Vec Ideal S10000x256 .f32) (w : Vec Ideal S80x10000 .f32)
    (a : Vec Ideal S1x128 .f32) (j : Fin 128) : k0_pay9 v22 v24 v25 w a (ix2 0 j)
      = a (ix2 0 j) + ∑ t : Fin 80, k0_pay8 v22 v24 v25 w (ix2 t (lo j)) := by
  pointwise [k0_pay9, k0_pay8]

/-- The gate, and a score of either half. -/
theorem gate_eq (s : Vec Ideal S1x128 .f32) (j : Fin 128) :
    k0_pay4 s (ix2 0 j) = Ideal.logistic (s (ix2 0 j) * ((10000⁻¹ : ℝ) : EReal)) := by
  pointwise [k0_pay4]
  rw [IdealRules.named_const.ideal_named_scalar _ _ _ _ rfl]
theorem score_lo (s : Vec Ideal S1x128 .f32) (D : Vec Ideal S128x128 .f32) (h : Vec Ideal S10000x128 .f32) (d : Vec Ideal S1x1 .f32) (r : Fin 10000) :
    k0_pay5 s D h d (ix2 r 0)
      = Spec.score (fun r i => h (ix2 r i)) (fun j => k0_pay4 s (ix2 0 j)) (fun i j => D (ix2 i j)) (d (ix2 0 0)) r := by
  pointwise [k0_pay5, Spec.score]
theorem score_hi (s : Vec Ideal S1x128 .f32) (D : Vec Ideal S128x128 .f32) (h : Vec Ideal S10000x128 .f32) (d : Vec Ideal S1x1 .f32) (r : Fin 10000) :
    k0_pay6 s D h d (ix2 r 0)
      = Spec.score (fun r i => h (ix2 r i)) (fun j => k0_pay4 s (ix2 0 j)) (fun i j => D (ix2 i j)) (d (ix2 0 0)) r := by
  pointwise [k0_pay6, Spec.score]

/-! ## The rows of the matrix, and the whole computation -/

variable (c : Dev nD) (A : FVec Ideal S10000x10000 .f32)

/-- Row `t` of chunk `b` is row `80 b + t` of the matrix. -/
theorem words_eq (b : Fin 125) (t : Fin 80) (k : Fin 10000) :
    words (F := Ideal) c A b (ix2 t k) = A (ix2 ⟨b.val * 80 + t.val, by omega⟩ k) :=
  congrArg A (funext fun a => Fin.ext (by
    fin_cases a
    · show 80 * b.val + 1 * t.val = b.val * 80 + t.val; omega
    · show 0 + 1 * k.val = k.val; omega))

section Columns
variable {v22 : FVec Ideal S1x256 .f32} {v24 : FVec Ideal S1x1 .f32} {v25 : Vec Ideal S10000x256 .f32} {x : Fin 10000 → Fin 128 → EReal}
  {W : Fin 128 → Fin 128 → EReal} {b : Fin 128 → EReal} {q : Fin 256} {j : Fin 128}

/-- A column of a chunk's activations is the hidden features' column it projects. -/
theorem chunk_hidden (hv : ∀ k, v25 (ix2 k q) = ∑ i : Fin 128, x k i * W i j) (hb : v22 (ix2 0 q) = b j) (u : Fin 125) (t : Fin 80) :
    k0_pay8 v22 v24 v25 (words (F := Ideal) c A u) (ix2 t q)
      = Spec.hidden (fun r k => A (ix2 r k)) W b (v24 (ix2 0 0)) x ⟨u.val * 80 + t.val, by omega⟩ j := by
  rw [act_eq, hb]
  exact congrArg (fun s => Spec.prelu _ (s + b j)) (Finset.sum_congr rfl fun k _ => by rw [words_eq, hv])

/-- The same of the whole buffer of activations. -/
theorem act_hidden (hv : ∀ k, v25 (ix2 k q) = ∑ i : Fin 128, x k i * W i j) (hb : v22 (ix2 0 q) = b j) (r : Fin 10000) :
    actV (F := Ideal) c A v22 v24 v25 (ix2 r q) = Spec.hidden (fun r k => A (ix2 r k)) W b (v24 (ix2 0 0)) x r j := by
  refine (chunk_hidden c A hv hb ⟨r.val / 80, by omega⟩ ⟨r.val % 80, Nat.mod_lt _ (by decide)⟩).trans ?_
  exact congrArg (fun r => Spec.hidden _ W b _ x r j) (Fin.ext (by show r.val / 80 * 80 + r.val % 80 = r.val; omega))

end Columns

/-- The running sums are sums over the chunks so far. -/
theorem sumAcc_eq (v22 : FVec Ideal S1x256 .f32) (v24 : FVec Ideal S1x1 .f32) (v25 : Vec Ideal S10000x256 .f32) (j : Fin 128) (n : ℕ) :
    sumAcc (F := Ideal) c A v22 v24 v25 n (ix2 0 j)
      = ∑ u ∈ Finset.range n, ∑ t : Fin 80, k0_pay8 v22 v24 v25 (words (F := Ideal) c A (Ring.bk 125 u)) (ix2 t (lo j)) := by
  induction n with
  | zero => show k0_pay21 (F := Ideal) (ix2 0 j) = 0; pointwise [k0_pay21]
  | succ n ih => rw [Finset.sum_range_succ, ← ih]; exact sum_eq v22 v24 v25 _ _ j

/-- After the last chunk they are the sums of whole columns. -/
theorem sums_eq {v22 : FVec Ideal S1x256 .f32} {v24 : FVec Ideal S1x1 .f32} {v25 : Vec Ideal S10000x256 .f32} {x : Fin 10000 → Fin 128 → EReal}
    {W : Fin 128 → Fin 128 → EReal} {b : Fin 128 → EReal} {j : Fin 128}
    (hv : ∀ k, v25 (ix2 k (lo j)) = ∑ i : Fin 128, x k i * W i j) (hb : v22 (ix2 0 (lo j)) = b j) :
    sumAcc (F := Ideal) c A v22 v24 v25 125 (ix2 0 j)
      = ∑ r : Fin 10000, Spec.hidden (fun r k => A (ix2 r k)) W b (v24 (ix2 0 0)) x r j := by
  rw [sumAcc_eq, Finset.sum_range]
  refine Eq.trans ?_ (Fin.sum_univ_tiles 125 80 rfl fun r : Fin 10000 => Spec.hidden (fun r k => A (ix2 r k)) W b (v24 (ix2 0 0)) x r j).symm
  refine Finset.sum_congr rfl fun u _ => Finset.sum_congr rfl fun t _ => ?_
  rw [show Ring.bk 125 u.val = u from Fin.ext (Ring.bk_val u.isLt)]
  exact chunk_hidden c A hv hb u t

/-! ## The two columns -/

theorem cols_0 (h : Vec Ideal S10000x256 .f32) (s : Vec Ideal S1x128 .f32) (D : Vec Ideal S128x128 .f32) (d : Vec Ideal S1x1 .f32) (r : Fin 10000) :
    colsV h s D d (ix2 r 0) = k0_pay5 s D (leftV h) d (ix2 r 0) := rfl
theorem cols_1 (h : Vec Ideal S10000x256 .f32) (s : Vec Ideal S1x128 .f32) (D : Vec Ideal S128x128 .f32) (d : Vec Ideal S1x1 .f32) (r : Fin 10000) :
    colsV h s D d (ix2 r 1) = k0_pay6 s D (rightV h) d (ix2 r 0) := rfl

section Scores
variable (x1 x2 : Vec Ideal S10000x128 .f32) (W : Vec Ideal S128x128 .f32) (b : Vec Ideal S1x256 .f32) (α : Vec Ideal S1x1 .f32)
  (D : Vec Ideal S128x128 .f32) (d : Vec Ideal S1x1 .f32)

/-- The hidden features of the matrix `x` under the kernel's operands and the bias row `β`. -/
abbrev hid (β : Fin 128 → EReal) (x : Vec Ideal S10000x128 .f32) : Fin 10000 → Fin 128 → EReal :=
  Spec.hidden (fun r k => A (ix2 r k)) (fun i j => W (ix2 i j)) β (α (ix2 0 0)) (fun k i => x (ix2 k i))

variable {β : Fin 128 → EReal} (hlo : ∀ j, b (ix2 0 (lo j)) = β j) (hhi : ∀ j, b (ix2 0 (hi j)) = β j)
include hlo

theorem gates_eq : (fun j : Fin 128 => (k0_pay4 (F := Ideal) (sumAcc (F := Ideal) c A (k0_pay22 b) (k0_pay23 α) (projV x1 x2 W) 125) (ix2 0 j) : EReal))
    = Spec.gate (hid A W α β x1) := by
  funext j
  rw [gate_eq, sums_eq c A (x := fun k i => x1 (ix2 k i)) (W := fun i j => W (ix2 i j)) (b := β) (fun k => proj_lo x1 x2 W k j)
    ((bias_eq b _).trans (hlo j)), slope_eq]
  rfl

theorem score_col0 (r : Fin 10000) : scoreV (F := Ideal) c A x1 x2 W b α D d (ix2 r 0)
    = Spec.score (hid A W α β x1) (Spec.gate (hid A W α β x1)) (fun i j => D (ix2 i j)) (d (ix2 0 0)) r := by
  refine (cols_0 _ _ D d r).trans ((score_lo _ D _ d r).trans ?_)
  rw [gates_eq c A x1 x2 W b α hlo]
  refine congrArg (fun h => Spec.score h _ _ _ r) (funext fun r => funext fun j => ?_)
  refine (act_hidden c A (x := fun k i => x1 (ix2 k i)) (W := fun i j => W (ix2 i j)) (b := β) (fun k => proj_lo x1 x2 W k j)
    ((bias_eq b _).trans (hlo j)) r).trans ?_
  rw [slope_eq]

include hhi
theorem score_col1 (r : Fin 10000) : scoreV (F := Ideal) c A x1 x2 W b α D d (ix2 r 1)
    = Spec.score (hid A W α β x2) (Spec.gate (hid A W α β x1)) (fun i j => D (ix2 i j)) (d (ix2 0 0)) r := by
  refine (cols_1 _ _ D d r).trans ((score_hi _ D _ d r).trans ?_)
  rw [gates_eq c A x1 x2 W b α hlo]
  refine congrArg (fun h => Spec.score h _ _ _ r) (funext fun r => funext fun j => ?_)
  refine (act_hidden c A (x := fun k i => x2 (ix2 k i)) (W := fun i j => W (ix2 i j)) (b := β) (fun k => proj_hi x1 x2 W k j)
    ((bias_eq b _).trans (hhi j)) r).trans ?_
  rw [slope_eq]

end Scores
end Cert.Proof.Kernel
end
-- ==== Proof.Values.Result.lean ====
/-
  The kernel program's result, read entry by entry over the extended reals as the scores of its own arguments.
-/
module

public import proofs.«01_k».proof.Proof.Values.Blocks
public import proofs.«01_k».proof.Proof.Values.Kernel

@[expose] public section

set_option maxRecDepth 16384
set_option maxHeartbeats 4000000
noncomputable section

namespace Cert.Proof.Result
open Cert.KernelIdeal Cert.KernelIdeal.Gen Cert.Proof.Ideal
open Idealize.ShloMosaic Idealize.ShloMosaic.TcCoe

variable (m : (ℓ : Loc nD τ sig) → Buf (Elt Ideal) ℓ) (c : Dev nD)

/-! ## The arguments, and the operands the first host operations make of them -/

abbrev a0 : FVec Ideal S1x10000x128 .f32 := m ((c : Thread nD τ).loc main_arg0)
abbrev a1 : FVec Ideal S1x10000x128 .f32 := m ((c : Thread nD τ).loc main_arg1)
abbrev a2 : FVec Ideal S1x10000x10000 .f32 := m ((c : Thread nD τ).loc main_arg2)
abbrev a4 : FVec Ideal S128x128 .f32 := m ((c : Thread nD τ).loc main_arg4)
abbrev a5 : FVec Ideal S128 .f32 := m ((c : Thread nD τ).loc main_arg5)
abbrev a6 : FVec Ideal S_ .f32 := m ((c : Thread nD τ).loc main_arg6)
abbrev a7 : FVec Ideal S128x128 .f32 := m ((c : Thread nD τ).loc main_arg7)
abbrev a8 : FVec Ideal S_ .f32 := m ((c : Thread nD τ).loc main_arg8)

/-- The buffers the first host operations write, computed. -/
theorem operands : V m c main_v0 = shapeCast S10000x128 (a0 m c) shapeCasts_S1x10000x128_S10000x128
    ∧ V m c main_v1 = shapeCast S10000x128 (a1 m c) shapeCasts_S1x10000x128_S10000x128
    ∧ V m c main_v2 = shapeCast S10000x10000 (a2 m c) shapeCasts_S1x10000x10000_S10000x10000
    ∧ V m c main_v4 = shapeCast S1x256 (concatenate S256 0 [⟨S128, a5 m c⟩, ⟨S128, a5 m c⟩] concatenates_S128_S128_S256_d0) shapeCasts_S256_S1x256
    ∧ V m c main_v5 = shapeCast S1x1 (a6 m c) shapeCasts_S_S1x1
    ∧ V m c main_v6 = shapeCast S1x1 (a8 m c) shapeCasts_S_S1x1 := by
  refine ⟨?_, ?_, ?_, ?_, ?_, ?_⟩ <;>
  · show StableHlo.after [hostOps0].flatten _ _ = _
    simp only [List.flatten_cons, List.flatten_nil, List.append_nil, hostOps0]
    after_results_simp
    rfl

theorem v0_at (k : Fin 10000) (i : Fin 128) : V m c main_v0 (ix2 k i) = a0 m c (ix3 0 k i) := by rw [(operands m c).1]; pointwise
theorem v1_at (k : Fin 10000) (i : Fin 128) : V m c main_v1 (ix2 k i) = a1 m c (ix3 0 k i) := by rw [(operands m c).2.1]; pointwise
theorem v2_at (r k : Fin 10000) : V m c main_v2 (ix2 r k) = a2 m c (ix3 0 r k) := by rw [(operands m c).2.2.1]; pointwise
theorem w_at (i j : Fin 128) : V m c main_arg4 (ix2 i j) = a4 m c (ix2 i j) := by rw [V_main_arg4]
theorem v4_lo (j : Fin 128) : V m c main_v4 (ix2 0 (Kernel.lo j)) = a5 m c (ix1 j) := by rw [(operands m c).2.2.2.1]; pointwise
theorem v4_hi (j : Fin 128) : V m c main_v4 (ix2 0 (Kernel.hi j)) = a5 m c (ix1 j) := by rw [(operands m c).2.2.2.1]; pointwise
theorem v5_at : V m c main_v5 (ix2 0 0) = a6 m c ix0 := by rw [(operands m c).2.2.2.2.1]; pointwise
theorem d_at (i j : Fin 128) : V m c main_arg7 (ix2 i j) = a7 m c (ix2 i j) := by rw [V_main_arg7]
theorem v6_at : V m c main_v6 (ix2 0 0) = a8 m c ix0 := by rw [(operands m c).2.2.2.2.2]; pointwise

/-! ## The scores and the result -/

/-- The hidden features of the argument `x`. -/
abbrev hid (x : FVec Ideal S1x10000x128 .f32) : Fin 10000 → Fin 128 → EReal :=
  Spec.hidden (fun r k => a2 m c (ix3 0 r k)) (fun i j => a4 m c (ix2 i j)) (fun j => a5 m c (ix1 j)) (a6 m c ix0) (fun k i => x (ix3 0 k i))

theorem hid_of {v : Vec Ideal S10000x128 .f32} {x : FVec Ideal S1x10000x128 .f32} (h : ∀ k i, v (ix2 k i) = x (ix3 0 k i)) :
    Kernel.hid (V m c main_v2) (V m c main_arg4) (V m c main_v5) (fun j => a5 m c (ix1 j)) v = hid m c x :=
  Spec.hidden_congr (v2_at m c) (w_at m c) (fun _ => rfl) (v5_at m c) h

theorem scores_0 (r : Fin 10000) : scores m c (ix2 r 0)
    = Spec.score (hid m c (a0 m c)) (Spec.gate (hid m c (a0 m c))) (fun i j => a7 m c (ix2 i j)) (a8 m c ix0) r := by
  refine (Kernel.score_col0 c (V m c main_v2) (V m c main_v0) (V m c main_v1) (V m c main_arg4) (V m c main_v4) (V m c main_v5) (V m c main_arg7)
    (V m c main_v6) (β := fun j => a5 m c (ix1 j)) (v4_lo m c) r).trans ?_
  exact Spec.score_congr (hid_of m c (v0_at m c)) (congrArg Spec.gate (hid_of m c (v0_at m c))) (d_at m c) (v6_at m c) r

theorem scores_1 (r : Fin 10000) : scores m c (ix2 r 1)
    = Spec.score (hid m c (a1 m c)) (Spec.gate (hid m c (a0 m c))) (fun i j => a7 m c (ix2 i j)) (a8 m c ix0) r := by
  refine (Kernel.score_col1 c (V m c main_v2) (V m c main_v0) (V m c main_v1) (V m c main_arg4) (V m c main_v4) (V m c main_v5) (V m c main_arg7)
    (V m c main_v6) (β := fun j => a5 m c (ix1 j)) (v4_lo m c) (v4_hi m c) r).trans ?_
  exact Spec.score_congr (hid_of m c (v1_at m c)) (congrArg Spec.gate (hid_of m c (v0_at m c))) (d_at m c) (v6_at m c) r

/-- A column laid out as a row, entry by entry. -/
theorem column_0 (s : FVec Ideal S10000x2 .f32) (r : Fin 10000) : column ![0, 0] slices_S10000x2_S10000x1_0_0 s (ix2 0 r) = s (ix2 r 0) := by
  pointwise [column]
theorem column_1 (s : FVec Ideal S10000x2 .f32) (r : Fin 10000) : column ![0, 1] slices_S10000x2_S10000x1_0_1 s (ix2 0 r) = s (ix2 r 1) := by
  pointwise [column]

/-- Two rows one after the other, entry by entry. -/
theorem joined (u v : FVec Ideal S1x10000 .f32) (p : Fin 20000) :
    concatenate S1x20000 1 [⟨S1x10000, u⟩, ⟨S1x10000, v⟩] concatenates_S1x10000_S1x10000_S1x20000_d1 (ix2 0 p)
      = if h : p.val < 10000 then u (ix2 0 ⟨p.val, h⟩) else v (ix2 0 ⟨p.val - 10000, by omega⟩) := by
  pointwise

theorem result_at (p : Fin 20000) : Pipeline.afterTail₀ cfgs (dats m) 0 (V0 m) [hostOps1] c main_v14 (ix2 0 p)
    = Spec.result (hid m c (a0 m c)) (hid m c (a1 m c)) (fun i j => a7 m c (ix2 i j)) (a8 m c ix0) p := by
  rw [result_val]
  refine (joined _ _ p).trans ?_
  unfold Spec.result
  split
  · exact (column_0 _ _).trans (scores_0 m c _)
  · exact (column_1 _ _).trans (scores_1 m c _)

end Cert.Proof.Result
end
-- ==== Proof.Consts.lean ====
/-
  The value of the constant the reference divides the column sums by.
-/
module

public import Idealize.ShloMosaic.PureOps.Ideal

@[expose] public section

namespace Cert.Proof.Consts
open Idealize.ShloMosaic

/-- The pattern of the number of rows. -/
theorem rows_val : Ideal.ofBits .f32 0x461C4000#32 = ((10000 : ℝ) : EReal) := by
  simp [Ideal.ofBits, Ideal.ieee, -EReal.coe_mul]; norm_num

end Cert.Proof.Consts
-- ==== Proof.Values.Reference.lean ====
/-
  The reference's result, read entry by entry: the score of the first features' rows, then of the second's.
-/
module

public import proofs.«01_k».proof.Proof.Gen.ReferenceIdeal.Run
public import proofs.«01_k».proof.Proof.Values.Spec
public import proofs.«01_k».proof.Proof.Consts
public import Idealize.ShloMosaic.Lib.Pointwise

@[expose] public section

noncomputable section

namespace Cert.Proof.Reference
open Cert.ReferenceIdeal Cert.ReferenceIdeal.Gen
open Idealize.ShloMosaic Idealize.SL

variable (A : FVec Ideal S1x10000x10000 .f32) (W : FVec Ideal S128x128 .f32) (b : FVec Ideal S128 .f32) (α : FVec Ideal S_ .f32)
  (x : FVec Ideal S1x10000x128 .f32)

/-- The convolution as the program composes it. -/
def convR : FVec Ideal S1x10000x128 .f32 :=
  addf (broadcastInDim S1x10000x128 ![1, 2] bcast_S10000x128_S1x10000x128_1_2
      (Host.dotGeneral dot_S10000x10000_S10000x128_S10000x128_1_0_0_1_n_n none (shapeCast _ A shapeCasts_S1x10000x10000_S10000x10000)
        (shapeCast _ (Host.dotGeneral dot_S1x10000x128_S128x128_S1x10000x128_2_0_01_1_n_n none x W) shapeCasts_S1x10000x128_S10000x128)))
    (broadcastInDim S1x10000x128 ![0, 1, 2] bcast_S1x1x128_S1x10000x128_0_1_2 (broadcastInDim S1x1x128 ![2] bcast_S128_S1x1x128_2 b))

/-- The activation as the program composes it. -/
def preluR (g : FVec Ideal S1x10000x128 .f32) : FVec Ideal S1x10000x128 .f32 :=
  select (cmpf .ogt g (broadcastInDim S1x10000x128 ![] bcast_S_S1x10000x128 (constant S_ .f32 0x00000000#32))) g
    (mulf (broadcastInDim S1x10000x128 ![] bcast_S_S1x10000x128 α) g)

/-- The gate as the program composes it. -/
def gateR (h : FVec Ideal S1x10000x128 .f32) : FVec Ideal S1x128 .f32 :=
  Host.divf (broadcastInDim S1x128 ![] bcast_S_S1x128 (constant S_ .f32 0x3F800000#32))
    (addf (broadcastInDim S1x128 ![] bcast_S_S1x128 (constant S_ .f32 0x3F800000#32))
      (Host.exp (Host.negf (Host.divf (Host.reduceAdd h (constant S_ .f32 0x00000000#32) reducesTo_S1x10000x128_S1x128_d1 h_S_)
        (broadcastInDim S1x128 ![] bcast_S_S1x128 (constant S_ .f32 0x461C4000#32))))))

/-- The scores as the program composes them. -/
def scoreR (h : FVec Ideal S1x10000x128 .f32) (g : FVec Ideal S1x128 .f32) (D : FVec Ideal S128x128 .f32) (d : FVec Ideal S_ .f32) :
    FVec Ideal S1x10000 .f32 :=
  addf (Host.reduceAdd (mulf (Host.dotGeneral dot_S1x10000x128_S128x128_S1x10000x128_2_0_01_1_n_n none h D)
      (broadcastInDim S1x10000x128 ![0, 1, 2] bcast_S1x1x128_S1x10000x128_0_1_2 (broadcastInDim S1x1x128 ![0, 2] bcast_S1x128_S1x1x128_0_2 g)))
      (constant S_ .f32 0x00000000#32) reducesTo_S1x10000x128_S1x10000_d2 h_S_)
    (broadcastInDim S1x10000 ![] bcast_S_S1x10000 d)

theorem conv_eq (r : Fin 10000) (j : Fin 128) : convR A W b x (ix3 0 r j)
    = Spec.conv (fun r k => A (ix3 0 r k)) (fun i j => W (ix2 i j)) (fun j => b (ix1 j)) (fun k i => x (ix3 0 k i)) r j := by
  pointwise [convR, Spec.conv]
theorem prelu_eq (g : FVec Ideal S1x10000x128 .f32) (r : Fin 10000) (j : Fin 128) :
    preluR α g (ix3 0 r j) = Spec.prelu (α ix0) (g (ix3 0 r j)) := by
  pointwise [preluR, Spec.prelu]
theorem gate_eq (h : FVec Ideal S1x10000x128 .f32) (j : Fin 128) : gateR h (ix2 0 j) = Spec.gate (fun r j => h (ix3 0 r j)) j := by
  pointwise [gateR, Spec.gate]
  rw [Consts.rows_val, Ideal.div_coe (by norm_num : (10000 : ℝ) ≠ 0), one_div, Ideal.logistic]
theorem score_eq (h : FVec Ideal S1x10000x128 .f32) (g : FVec Ideal S1x128 .f32) (D : FVec Ideal S128x128 .f32) (d : FVec Ideal S_ .f32)
    (r : Fin 10000) : scoreR h g D d (ix2 0 r)
    = Spec.score (fun r j => h (ix3 0 r j)) (fun j => g (ix2 0 j)) (fun i j => D (ix2 i j)) (d ix0) r := by
  pointwise [scoreR, Spec.score]

/-- The hidden features as the program composes them. -/
theorem hidden_eq (r : Fin 10000) (j : Fin 128) : preluR α (convR A W b x) (ix3 0 r j)
    = Spec.hidden (fun r k => A (ix3 0 r k)) (fun i j => W (ix2 i j)) (fun j => b (ix1 j)) (α ix0) (fun k i => x (ix3 0 k i)) r j := by
  rw [prelu_eq, conv_eq]; rfl

/-- The scores of hidden features `h` against the gate of hidden features `g`. -/
theorem scores_eq {h g : FVec Ideal S1x10000x128 .f32} (D : FVec Ideal S128x128 .f32) (d : FVec Ideal S_ .f32)
    {p q : Fin 10000 → Fin 128 → EReal} (hp : ∀ r j, h (ix3 0 r j) = p r j) (hq : ∀ r j, g (ix3 0 r j) = q r j) (r : Fin 10000) :
    scoreR h (gateR g) D d (ix2 0 r) = Spec.score p (Spec.gate q) (fun i j => D (ix2 i j)) (d ix0) r := by
  obtain rfl : (fun r j => h (ix3 0 r j)) = p := funext fun r => funext fun j => hp r j
  obtain rfl : (fun r j => g (ix3 0 r j)) = q := funext fun r => funext fun j => hq r j
  rw [score_eq]
  exact congrArg (fun u => Spec.score _ u _ _ r) (funext fun j => gate_eq g j)

section Result
variable (a0 a1 : FVec Ideal S1x10000x128 .f32) (A : FVec Ideal S1x10000x10000 .f32) (W : FVec Ideal S128x128 .f32) (b : FVec Ideal S128 .f32)
  (α : FVec Ideal S_ .f32) (D : FVec Ideal S128x128 .f32) (d : FVec Ideal S_ .f32)

/-- The hidden features of the argument `x`. -/
abbrev hid (x : FVec Ideal S1x10000x128 .f32) : Fin 10000 → Fin 128 → EReal :=
  Spec.hidden (fun r k => A (ix3 0 r k)) (fun i j => W (ix2 i j)) (fun j => b (ix1 j)) (α ix0) (fun k i => x (ix3 0 k i))

/-- The two rows of scores one after the other. -/
def resultR : FVec Ideal S1x20000 .f32 :=
  concatenate S1x20000 1 [⟨S1x10000, scoreR (preluR α (convR A W b a0)) (gateR (preluR α (convR A W b a0))) D d⟩,
    ⟨S1x10000, scoreR (preluR α (convR A W b a1)) (gateR (preluR α (convR A W b a0))) D d⟩] concatenates_S1x10000_S1x10000_S1x20000_d1

theorem resultR_eq (p : Fin 20000) : resultR a0 a1 A W b α D d (ix2 0 p)
    = Spec.result (hid A W b α a0) (hid A W b α a1) (fun i j => D (ix2 i j)) (d ix0) p := by
  unfold resultR Spec.result
  generalize e0 : scoreR (preluR α (convR A W b a0)) (gateR (preluR α (convR A W b a0))) D d = s0
  generalize e1 : scoreR (preluR α (convR A W b a1)) (gateR (preluR α (convR A W b a0))) D d = s1
  pointwise
  split
  · rw [← e0]; exact scores_eq D d (hidden_eq A W b α a0) (hidden_eq A W b α a0) _
  · rw [← e1]; exact scores_eq D d (hidden_eq A W b α a1) (hidden_eq A W b α a0) _

end Result

/-- The reference's result in memory is that term of its arguments. -/
theorem result_eq (m : (ℓ : Loc nD τ sig) → Buf (Elt Ideal) ℓ) (c : Dev nD) :
    Cert.ReferenceIdeal.Value.res_main_v48 m c
      = resultR (m ((c.tc : Thread nD τ).loc main_arg0)) (m ((c.tc : Thread nD τ).loc main_arg1)) (m ((c.tc : Thread nD τ).loc main_arg2))
          (m ((c.tc : Thread nD τ).loc main_arg4)) (m ((c.tc : Thread nD τ).loc main_arg5)) (m ((c.tc : Thread nD τ).loc main_arg6))
          (m ((c.tc : Thread nD τ).loc main_arg7)) (m ((c.tc : Thread nD τ).loc main_arg8)) := rfl

end Cert.Proof.Reference
end
-- ==== Proof.lean ====
/-
  The claim: both kernel programs and the reference run to quiescence with their arguments unchanged, the idealization is
  the sanctioned one, and over the extended reals kernel and reference return equal scores.
-/
module

public import proofs.«01_k».proof.Defs
public import proofs.«01_k».proof.Proof.Words.Frame
public import proofs.«01_k».proof.Proof.Values.Result
public import proofs.«01_k».proof.Proof.Values.Reference

@[expose] public section

noncomputable section

namespace Cert.Proof
open Idealize.ShloMosaic Idealize.SL.Sem

/-! ## The frames -/

theorem frame_kernel : Cert.quiescent_Kernel := Words.frame_kernel

theorem frame_ideal : Cert.quiescent_KernelIdeal := fun m ρ _ => Ideal.frame m ρ

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Idealize.ShloMosaic.Ideal) m ρ)

theorem preserves : Cert.preserves_Kernel_KernelIdeal :=
  IdealRules.named_const.statement Cert.KernelIdeal.κ "inv_n" .f32 0x38D1B717#32 ((10000⁻¹ : ℝ) : EReal) rfl

/-! ## The values -/

/-- From agreeing arguments the reference's result is the kernel program's. -/
theorem results_agree (m : (ℓ : Loc Cert.KernelIdeal.nD Cert.KernelIdeal.τ Cert.KernelIdeal.sig) → Buf (Elt Idealize.ShloMosaic.Ideal) ℓ)
    (m' : (ℓ : Loc Cert.ReferenceIdeal.nD Cert.ReferenceIdeal.τ Cert.ReferenceIdeal.sig) → Buf (Elt Idealize.ShloMosaic.Ideal) ℓ)
    (c : Dev Cert.KernelIdeal.nD)
    (h0 : m' ((c.tc : Thread Cert.ReferenceIdeal.nD Cert.ReferenceIdeal.τ).loc Cert.ReferenceIdeal.main_arg0) = Result.a0 m c)
    (h1 : m' ((c.tc : Thread Cert.ReferenceIdeal.nD Cert.ReferenceIdeal.τ).loc Cert.ReferenceIdeal.main_arg1) = Result.a1 m c)
    (h2 : m' ((c.tc : Thread Cert.ReferenceIdeal.nD Cert.ReferenceIdeal.τ).loc Cert.ReferenceIdeal.main_arg2) = Result.a2 m c)
    (h4 : m' ((c.tc : Thread Cert.ReferenceIdeal.nD Cert.ReferenceIdeal.τ).loc Cert.ReferenceIdeal.main_arg4) = Result.a4 m c)
    (h5 : m' ((c.tc : Thread Cert.ReferenceIdeal.nD Cert.ReferenceIdeal.τ).loc Cert.ReferenceIdeal.main_arg5) = Result.a5 m c)
    (h6 : m' ((c.tc : Thread Cert.ReferenceIdeal.nD Cert.ReferenceIdeal.τ).loc Cert.ReferenceIdeal.main_arg6) = Result.a6 m c)
    (h7 : m' ((c.tc : Thread Cert.ReferenceIdeal.nD Cert.ReferenceIdeal.τ).loc Cert.ReferenceIdeal.main_arg7) = Result.a7 m c)
    (h8 : m' ((c.tc : Thread Cert.ReferenceIdeal.nD Cert.ReferenceIdeal.τ).loc Cert.ReferenceIdeal.main_arg8) = Result.a8 m c) :
    Cert.ReferenceIdeal.Value.res_main_v48 m' c
      = Pipeline.afterTail₀ Cert.KernelIdeal.cfgs (Ideal.dats m) 0 (Cert.KernelIdeal.Gen.V0 m) [Cert.KernelIdeal.Gen.hostOps1] c
          Cert.KernelIdeal.main_v14 := by
  rw [Reference.result_eq, h0, h1, h2, h4, h5, h6, h7, h8]
  funext y
  obtain ⟨i, p, rfl⟩ : ∃ (i : Fin 1) (p : Fin 20000), y = ix2 i p := ⟨y 0, y 1, eq_ix2 y⟩
  obtain rfl : i = 0 := Subsingleton.elim _ _
  exact (Reference.resultR_eq _ _ _ _ _ _ _ _ p).trans (Result.result_at m c p).symm

theorem algebraic : Cert.algebraic_KernelIdeal_ReferenceIdeal := by
  intro m ρ m' ρ' _ hagree
  refine ⟨fun c => Pipeline.afterTail₀ Cert.KernelIdeal.cfgs (Ideal.dats m) 0 (Cert.KernelIdeal.Gen.V0 m) [Cert.KernelIdeal.Gen.hostOps1] c
      Cert.KernelIdeal.main_v14, ?_, ?_⟩
  · exact (θ_run Cert.KernelIdeal.defs _ _).mono
      (fun _ h c => ⟨(h.1 c).2 Cert.KernelIdeal.main_v14 (Pipeline.mem_restRefs_of _ (by decide) (by decide)), Ideal.args_kept m h.1 c⟩)
      (Ideal.run_main m ρ)
  · refine (θ_run Cert.ReferenceIdeal.defs _ _).mono (fun _ h c => ⟨(h c).1.trans ?_, (h c).2⟩)
      (Cert.ReferenceIdeal.Value.run (F := Idealize.ShloMosaic.Ideal) m' ρ')
    obtain ⟨h0, h1, h2, -, h4, h5, h6, h7, h8⟩ := hagree c
    exact results_agree m m' c h0 h1 h2 h4 h5 h6 h7 h8

theorem claim : Cert.Claim :=
  ⟨Cert.Kernel.Gen.facts, Cert.KernelIdeal.Gen.facts, Cert.ReferenceIdeal.Gen.facts, frame_kernel, frame_ideal, frame_reference, preserves, algebraic⟩

end Cert.Proof
end
